-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x768 : Shape := ⟨2, ![4096, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S1x8 : Shape := ⟨2, ![1, 8]⟩
abbrev S4096x8 : Shape := ⟨2, ![4096, 8]⟩
abbrev S4096x1 : Shape := ⟨2, ![4096, 1]⟩
abbrev S40x1 : Shape := ⟨2, ![40, 1]⟩
abbrev S4096 : Shape := ⟨1, ![4096]⟩
abbrev S512x512 : Shape := ⟨2, ![512, 512]⟩
abbrev S1x512 : Shape := ⟨2, ![1, 512]⟩
abbrev S512x8 : Shape := ⟨2, ![512, 8]⟩
abbrev S8x8 : Shape := ⟨2, ![8, 8]⟩
abbrev S40x8 : Shape := ⟨2, ![40, 8]⟩
abbrev S40 : Shape := ⟨1, ![40]⟩
abbrev S8192 : Shape := ⟨1, ![8192]⟩
abbrev S_ : Shape := ⟨0, ![]⟩
abbrev S10240 : Shape := ⟨1, ![10240]⟩
abbrev S8192x1 : Shape := ⟨2, ![8192, 1]⟩
abbrev S10240x1 : Shape := ⟨2, ![10240, 1]⟩
abbrev S1 : Shape := ⟨1, ![1]⟩
abbrev S1x1 : Shape := ⟨2, ![1, 1]⟩
abbrev S10240x768 : Shape := ⟨2, ![10240, 768]⟩
abbrev S8x1x768 : Shape := ⟨3, ![8, 1, 768]⟩
abbrev S256x768 : Shape := ⟨2, ![256, 768]⟩
abbrev S1x768x768 : Shape := ⟨3, ![1, 768, 768]⟩
abbrev S1x1x768 : Shape := ⟨3, ![1, 1, 768]⟩
abbrev S768x768 : Shape := ⟨2, ![768, 768]⟩
abbrev S1x768 : Shape := ⟨2, ![1, 768]⟩

abbrev nBuf : Space → Nat
  | .hbm => 83
  | .vmem => 21
  | .smem => 1
  | _ => 0

abbrev bufTy : (tb : Table) → Fin (tcTables nBuf tb) → BufTy
  | .hbm, ⟨0, _⟩ => ⟨S4096x768, .f32⟩
  | .hbm, ⟨1, _⟩ => ⟨S768x8, .f32⟩
  | .hbm, ⟨2, _⟩ => ⟨S8, .f32⟩
  | .hbm, ⟨3, _⟩ => ⟨S8x768x768, .f32⟩
  | .hbm, ⟨4, _⟩ => ⟨S8x768, .f32⟩
  | .hbm, ⟨5, _⟩ => ⟨S8x768x768, .f32⟩
  | .hbm, ⟨6, _⟩ => ⟨S8x768, .f32⟩
  | .hbm, ⟨7, _⟩ => ⟨S1x8, .f32⟩
  | .hbm, ⟨8, _⟩ => ⟨S4096x8, .f32⟩
  | .hbm, ⟨9, _⟩ => ⟨S4096x1, .i32⟩
  | .hbm, ⟨10, _⟩ => ⟨S4096x1, .i32⟩
  | .hbm, ⟨11, _⟩ => ⟨S4096x1, .f32⟩
  | .hbm, ⟨12, _⟩ => ⟨S4096x1, .f32⟩
  | .hbm, ⟨13, _⟩ => ⟨S40x1, .i32⟩
  | .hbm, ⟨14, _⟩ => ⟨S4096, .i32⟩
  | .hbm, ⟨15, _⟩ => ⟨S4096, .i32⟩
  | .hbm, ⟨16, _⟩ => ⟨S8192, .i32⟩
  | .hbm, ⟨17, _⟩ => ⟨S4096, .i32⟩
  | .hbm, ⟨18, _⟩ => ⟨S8192, .i32⟩
  | .hbm, ⟨19, _⟩ => ⟨S_, .i32⟩
  | .hbm, ⟨20, _⟩ => ⟨S10240, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S10240, .i32⟩
  | .hbm, ⟨30, _⟩ => ⟨S_, .i32⟩
  | .hbm, ⟨31, _⟩ => ⟨S10240, .i32⟩
  | .hbm, ⟨32, _⟩ => ⟨S10240, .i1⟩
  | .hbm, ⟨33, _⟩ => ⟨S_, .i32⟩
  | .hbm, ⟨34, _⟩ => ⟨S10240, .i32⟩
  | .hbm, ⟨35, _⟩ => ⟨S10240, .i32⟩
  | .hbm, ⟨36, _⟩ => ⟨S10240, .i32⟩
  | .hbm, ⟨37, _⟩ => ⟨S10240x1, .i32⟩
  | .hbm, ⟨38, _⟩ => ⟨S1, .i32⟩
  | .hbm, ⟨39, _⟩ => ⟨S_, .i32⟩
  | .hbm, ⟨40, _⟩ => ⟨S10240x1, .i32⟩
  | .hbm, ⟨41, _⟩ => ⟨S10240x1, .i1⟩
  | .hbm, ⟨42, _⟩ => ⟨S1x1, .i32⟩
  | .hbm, ⟨43, _⟩ => ⟨S10240x1, .i32⟩
  | .hbm, ⟨44, _⟩ => ⟨S10240x1, .i1⟩
  | .hbm, ⟨45, _⟩ => ⟨S10240x1, .i1⟩
  | .hbm, ⟨46, _⟩ => ⟨S_, .i1⟩
  | .hbm, ⟨47, _⟩ => ⟨S10240, .i1⟩
  | .hbm, ⟨48, _⟩ => ⟨S10240x768, .f32⟩
  | .hbm, ⟨49, _⟩ => ⟨S10240x768, .i1⟩
  | .hbm, ⟨50, _⟩ => ⟨S_, .f32⟩
  | .hbm, ⟨51, _⟩ => ⟨S10240x768, .f32⟩
  | .hbm, ⟨52, _⟩ => ⟨S10240x768, .f32⟩
  | .hbm, ⟨53, _⟩ => ⟨S8x768x768, .bf16⟩
  | .hbm, ⟨54, _⟩ => ⟨S8x768x768, .bf16⟩
  | .hbm, ⟨55, _⟩ => ⟨S8x1x768, .f32⟩
  | .hbm, ⟨56, _⟩ => ⟨S8x1x768, .f32⟩
  | .hbm, ⟨57, _⟩ => ⟨S10240x768, .f32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i1⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .i32⟩
  | .hbm, ⟨66, _⟩ => ⟨S4096x1, .i32⟩
  | .hbm, ⟨67, _⟩ => ⟨S4096x768, .f32⟩
  | .hbm, ⟨68, _⟩ => ⟨S4096x768, .f32⟩
  | .hbm, ⟨69, _⟩ => ⟨S4096x768, .f32⟩
  | .hbm, ⟨70, _⟩ => ⟨S4096, .i32⟩
  | .hbm, ⟨71, _⟩ => ⟨S_, .i32⟩
  | .hbm, ⟨72, _⟩ => ⟨S4096, .i32⟩
  | .hbm, ⟨73, _⟩ => ⟨S4096, .i1⟩
  | .hbm, ⟨74, _⟩ => ⟨S_, .i32⟩
  | .hbm, ⟨75, _⟩ => ⟨S4096, .i32⟩
  | .hbm, ⟨76, _⟩ => ⟨S4096, .i32⟩
  | .hbm, ⟨77, _⟩ => ⟨S4096, .i32⟩
  | .hbm, ⟨78, _⟩ => ⟨S4096x1, .i32⟩
  | .hbm, ⟨79, _⟩ => ⟨S4096x768, .f32⟩
  | .hbm, ⟨80, _⟩ => ⟨S4096x768, .f32⟩
  | .hbm, ⟨81, _⟩ => ⟨S4096x768, .f32⟩
  | .hbm, ⟨82, _⟩ => ⟨S4096x768, .f32⟩
  | .local _ .vmem, ⟨0, _⟩ => ⟨S4096x768, .f32⟩
  | .local _ .vmem, ⟨1, _⟩ => ⟨S768x8, .f32⟩
  | .local _ .vmem, ⟨2, _⟩ => ⟨S1x8, .f32⟩
  | .local _ .vmem, ⟨3, _⟩ => ⟨S4096x8, .f32⟩
  | .local _ .vmem, ⟨4, _⟩ => ⟨S4096x1, .i32⟩
  | .local _ .vmem, ⟨5, _⟩ => ⟨S4096x1, .i32⟩
  | .local _ .vmem, ⟨6, _⟩ => ⟨S4096x1, .f32⟩
  | .local _ .vmem, ⟨7, _⟩ => ⟨S4096x1, .f32⟩
  | .local _ .vmem, ⟨8, _⟩ => ⟨S40x1, .i32⟩
  | .local _ .vmem, ⟨9, _⟩ => ⟨S256x768, .f32⟩
  | .local _ .vmem, ⟨10, _⟩ => ⟨S256x768, .f32⟩
  | .local _ .vmem, ⟨11, _⟩ => ⟨S1x768x768, .bf16⟩
  | .local _ .vmem, ⟨12, _⟩ => ⟨S1x768x768, .bf16⟩
  | .local _ .vmem, ⟨13, _⟩ => ⟨S1x1x768, .f32⟩
  | .local _ .vmem, ⟨14, _⟩ => ⟨S1x1x768, .f32⟩
  | .local _ .vmem, ⟨15, _⟩ => ⟨S1x768x768, .bf16⟩
  | .local _ .vmem, ⟨16, _⟩ => ⟨S1x768x768, .bf16⟩
  | .local _ .vmem, ⟨17, _⟩ => ⟨S1x1x768, .f32⟩
  | .local _ .vmem, ⟨18, _⟩ => ⟨S1x1x768, .f32⟩
  | .local _ .vmem, ⟨19, _⟩ => ⟨S256x768, .f32⟩
  | .local _ .vmem, ⟨20, _⟩ => ⟨S256x768, .f32⟩
  | .local _ .smem, ⟨0, _⟩ => ⟨S40, .i32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_c_2 : Ref sig .tc := ⟨.hbm, 59, rfl⟩
abbrev main_v23 : Ref sig .tc := ⟨.hbm, 60, rfl⟩
abbrev main_v24 : Ref sig .tc := ⟨.hbm, 61, rfl⟩
abbrev main_c_3 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_c_4 : Ref sig .tc := ⟨.hbm, 71, rfl⟩
abbrev main_v33 : Ref sig .tc := ⟨.hbm, 72, rfl⟩
abbrev main_v34 : Ref sig .tc := ⟨.hbm, 73, rfl⟩
abbrev main_c_5 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v18 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := .none

abbrev stage0_0 : Fin 1 → Memref sig .tc .vmem S4096x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S40x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![40], ![false]⟩

abbrev pre1 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x768x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x768x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S4096x768 : Shape := ⟨2, ![4096, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S4096x8 : Shape := ⟨2, ![4096, 8]⟩
abbrev S1x8 : Shape := ⟨2, ![1, 8]⟩
abbrev S_ : Shape := ⟨0, ![]⟩
abbrev S4096 : Shape := ⟨1, ![4096]⟩
abbrev S4096x1 : Shape := ⟨2, ![4096, 1]⟩
abbrev S4096x2 : Shape := ⟨2, ![4096, 2]⟩
abbrev S4096x2x1 : Shape := ⟨3, ![4096, 2, 1]⟩
abbrev S4096x2x2 : Shape := ⟨3, ![4096, 2, 2]⟩
abbrev S4096x8x768 : Shape := ⟨3, ![4096, 8, 768]⟩
abbrev S1x8x768 : Shape := ⟨3, ![1, 8, 768]⟩
abbrev S8x768x4096 : Shape := ⟨3, ![8, 768, 4096]⟩

abbrev nBuf : Space → Nat
  | .hbm => 80
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x8, .f32⟩
  | .hbm, ⟨2, _⟩ => ⟨S8, .f32⟩
  | .hbm, ⟨3, _⟩ => ⟨S8x768x768, .f32⟩
  | .hbm, ⟨4, _⟩ => ⟨S8x768, .f32⟩
  | .hbm, ⟨5, _⟩ => ⟨S8x768x768, .f32⟩
  | .hbm, ⟨6, _⟩ => ⟨S8x768, .f32⟩
  | .hbm, ⟨7, _⟩ => ⟨S4096x8, .f32⟩
  | .hbm, ⟨8, _⟩ => ⟨S1x8, .f32⟩
  | .hbm, ⟨9, _⟩ => ⟨S4096x8, .f32⟩
  | .hbm, ⟨10, _⟩ => ⟨S4096x8, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096x1, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x8, .f32⟩
  | .hbm, ⟨24, _⟩ => ⟨S4096x8, .f32⟩
  | .hbm, ⟨25, _⟩ => ⟨S4096x2, .f32⟩
  | .hbm, ⟨26, _⟩ => ⟨S4096x2, .i32⟩
  | .hbm, ⟨27, _⟩ => ⟨S4096, .i32⟩
  | .hbm, ⟨28, _⟩ => ⟨S4096x1, .i32⟩
  | .hbm, ⟨29, _⟩ => ⟨S_, .f32⟩
  | .hbm, ⟨30, _⟩ => ⟨S4096x8, .f32⟩
  | .hbm, ⟨31, _⟩ => ⟨S_, .i32⟩
  | .hbm, ⟨32, _⟩ => ⟨S4096x1, .i32⟩
  | .hbm, ⟨33, _⟩ => ⟨S4096x1, .i1⟩
  | .hbm, ⟨34, _⟩ => ⟨S_, .i32⟩
  | .hbm, ⟨35, _⟩ => ⟨S4096x1, .i32⟩
  | .hbm, ⟨36, _⟩ => ⟨S4096x1, .i32⟩
  | .hbm, ⟨37, _⟩ => ⟨S4096x1, .i32⟩
  | .hbm, ⟨38, _⟩ => ⟨S_, .i32⟩
  | .hbm, ⟨39, _⟩ => ⟨S4096x2, .i32⟩
  | .hbm, ⟨40, _⟩ => ⟨S4096x2, .i1⟩
  | .hbm, ⟨41, _⟩ => ⟨S_, .i32⟩
  | .hbm, ⟨42, _⟩ => ⟨S4096x2, .i32⟩
  | .hbm, ⟨43, _⟩ => ⟨S4096x2, .i32⟩
  | .hbm, ⟨44, _⟩ => ⟨S4096x2, .i32⟩
  | .hbm, ⟨45, _⟩ => ⟨S4096x2, .i32⟩
  | .hbm, ⟨46, _⟩ => ⟨S4096x2x1, .i32⟩
  | .hbm, ⟨47, _⟩ => ⟨S4096x2x1, .i32⟩
  | .hbm, ⟨48, _⟩ => ⟨S4096x2x2, .i32⟩
  | .hbm, ⟨49, _⟩ => ⟨S_, .f32⟩
  | .hbm, ⟨50, _⟩ => ⟨S4096x2, .f32⟩
  | .hbm, ⟨51, _⟩ => ⟨S4096x8, .f32⟩
  | .hbm, ⟨52, _⟩ => ⟨S4096x8, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x8, .f32⟩
  | .hbm, ⟨60, _⟩ => ⟨S4096x8, .f32⟩
  | .hbm, ⟨61, _⟩ => ⟨S4096x8x768, .f32⟩
  | .hbm, ⟨62, _⟩ => ⟨S1x8x768, .f32⟩
  | .hbm, ⟨63, _⟩ => ⟨S4096x8x768, .f32⟩
  | .hbm, ⟨64, _⟩ => ⟨S4096x8x768, .f32⟩
  | .hbm, ⟨65, _⟩ => ⟨S_, .f32⟩
  | .hbm, ⟨66, _⟩ => ⟨S4096x8x768, .f32⟩
  | .hbm, ⟨67, _⟩ => ⟨S4096x8x768, .f32⟩
  | .hbm, ⟨68, _⟩ => ⟨S4096x8x768, .f32⟩
  | .hbm, ⟨69, _⟩ => ⟨S_, .f32⟩
  | .hbm, ⟨70, _⟩ => ⟨S4096x8x768, .f32⟩
  | .hbm, ⟨71, _⟩ => ⟨S4096x8x768, .f32⟩
  | .hbm, ⟨72, _⟩ => ⟨S4096x8x768, .f32⟩
  | .hbm, ⟨73, _⟩ => ⟨S4096x8x768, .f32⟩
  | .hbm, ⟨74, _⟩ => ⟨S8x768x4096, .f32⟩
  | .hbm, ⟨75, _⟩ => ⟨S4096x8x768, .f32⟩
  | .hbm, ⟨76, _⟩ => ⟨S1x8x768, .f32⟩
  | .hbm, ⟨77, _⟩ => ⟨S4096x8x768, .f32⟩
  | .hbm, ⟨78, _⟩ => ⟨S4096x8x768, .f32⟩
  | .hbm, ⟨79, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_values : Ref sig .tc := ⟨.hbm, 25, rfl⟩
abbrev main_indices : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Proof.RouterBody.lean ====
/-
  The router kernel's body, for the idealized program: what each of its six results is as a function of the three
  blocks it reads (token rows, router matrix, router bias), and that the body, run on whole staging buffers, leaves
  exactly those values.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Tactic

@[expose] public section

noncomputable section

namespace Cert.KernelIdeal.Moe

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The program's user algebra: the pipelines' rounds beside the transfers' counters. -/
abbrev UU : Type := UR sig nD τ × Counters

local notation "𝕄" => MT nD τ sig Unit (Elt F) ℕ UU ℕ

section Values

variable (x : Vec F S4096x768 .f32) (wr : Vec F S768x8 .f32) (br : Vec F S1x8 .f32)

/-- The two index tables of the 8 × 8 inclusion matrix and the expert number of each column. -/
abbrev rows8 : IVec S8x8 32 := iota .tc S8x8 32 [0] iota_S8x8_d0_w32
abbrev cols8 : IVec S8x8 32 := iota .tc S8x8 32 [1] iota_S8x8_d1_w32
abbrev expertNo : IVec S4096x8 32 := iota .tc S4096x8 32 [1] iota_S4096x8_d1_w32

/-- The indicator matrices of the first and the second choice. -/
def pick1 : FVec F S4096x8 .bf16 := k0_pay16 (k0_pay8 x wr br)
def pick2 : FVec F S4096x8 .bf16 := k0_pay17 expertNo (k0_pay11 x wr br)

/-- Token counts per expert after the first four blocks of 512 tokens, first choices only. -/
def count4 : FVec F S1x8 .f32 := k0_pay29 (k0_pay8 x wr br)
/-- The fourth block of first choices. -/
def piece3 : FVec F S512x8 .bf16 := k0_pay30 (F := F) (k0_pay8 x wr br)

/-- Rank of each token among the tokens of the same first choice. -/
def rank1 : FVec F S4096x8 .f32 :=
  k0_pay41 (pick1 x wr br) k0_pay18 k0_pay19 (k0_pay22 (k0_pay8 x wr br)) (k0_pay25 (k0_pay8 x wr br))
    (k0_pay28 (k0_pay8 x wr br)) (count4 x wr br) (piece3 x wr br) (k0_pay31 (k0_pay8 x wr br))
/-- Token counts after all first choices and the first three blocks of second choices. -/
def count11 : FVec F S1x8 .f32 :=
  k0_pay50 (pick1 x wr br) (pick2 x wr br) k0_pay19 (count4 x wr br) (piece3 x wr br)

/-- The rank of each token at its own first choice, and at its own second choice. -/
def ownRank1 : FVec F S4096x1 .f32 := k0_pay60 (pick1 x wr br) (rank1 x wr br)
def ownRank2 : FVec F S4096x1 .f32 :=
  k0_pay61 (pick2 x wr br) k0_pay18 k0_pay19
    (k0_pay43 (pick1 x wr br) (pick2 x wr br) k0_pay18 k0_pay19 (count4 x wr br) (piece3 x wr br))
    (k0_pay46 (pick1 x wr br) (pick2 x wr br) k0_pay18 k0_pay19 (count4 x wr br) (piece3 x wr br))
    (k0_pay49 (pick1 x wr br) (pick2 x wr br) k0_pay18 k0_pay19 (count4 x wr br) (piece3 x wr br))
    (count11 x wr br)
/-- Number of 256-row tiles of each expert. -/
def tiles : FVec F S1x8 .f32 := k0_pay62 (pick2 x wr br) k0_pay19 (count11 x wr br)

/-- The six results. -/
def outW : FVec F S4096x8 .f32 := k0_pay6 x wr br
def outP1 : IVec S4096x1 32 := k0_pay3 (pick1 x wr br) (ownRank1 x wr br) (tiles x wr br) rows8 cols8
def outP2 : IVec S4096x1 32 := k0_pay4 (pick2 x wr br) (ownRank2 x wr br) (tiles x wr br) rows8 cols8
def outN1 : FVec F S4096x1 .f32 := k0_pay14 (k0_pay7 x wr br) (k0_pay12 x wr br)
def outN2 : FVec F S4096x1 .f32 := k0_pay15 (k0_pay10 x wr br) (k0_pay12 x wr br)
def outTE : IVec S40x1 32 := k0_pay5 (tiles x wr br) rows8 cols8

end Values

/-- One store through the whole-shape rectangle covers the buffer. -/
theorem covered {S : Shape} {e : EltTy} {off : Fin S.rank → Nat} (h : off = fun _ => 0)
    (inb : ∀ a, off a + S.size a ≤ S.size a) (w : S.Idx → Elt F e) (y : S.Idx) :
    ∃ pc ∈ ([⟨Rect.unit off S.size inb, w⟩] : List (View.Piece (Elt F) S e)), y ∈ pc.1.set :=
  ⟨_, List.mem_singleton_self _, View.mem_set_unit_zero h inb y⟩

theorem off2 : (![0, 0] : Fin 2 → Nat) = fun _ => 0 := by decide
theorem off3 : (![0, 0, 0] : Fin 3 → Nat) = fun _ => 0 := by decide

/-- A load through the whole-shape rectangle reads the buffer. -/
theorem readAt_whole {sp : Space} {S : Shape} {e : EltTy} (v : View sig .tc sp S e) {off : Fin S.rank → Nat} (h : off = fun _ => 0)
    (inb : ∀ a, off a + S.size a ≤ S.size a) (f : v.ty.Contents (Elt F)) :
    View.readAt (Elt F) v (Rect.unit off S.size inb).toLoadRect f = v.read (Elt F) f :=
  View.ld_unit_zero h inb (v.read (Elt F) f)

set_option maxHeartbeats 2000000 in
set_option maxRecDepth 65536 in
/-- The router body on whole staging buffers: the inputs kept, the six results at their values. -/
theorem router_body (c : Dev nD) (E : Set ℕ)
    (a0 : Memref sig .tc .vmem S4096x768 .f32) (h0 : a0.IsWhole) (a1 : Memref sig .tc .vmem S768x8 .f32) (h1 : a1.IsWhole)
    (a2 : Memref sig .tc .vmem S1x8 .f32) (h2 : a2.IsWhole) (a3 : Memref sig .tc .vmem S4096x8 .f32) (h3 : a3.IsWhole)
    (a4 : Memref sig .tc .vmem S4096x1 .i32) (h4 : a4.IsWhole) (a5 : Memref sig .tc .vmem S4096x1 .i32) (h5 : a5.IsWhole)
    (a6 : Memref sig .tc .vmem S4096x1 .f32) (h6 : a6.IsWhole) (a7 : Memref sig .tc .vmem S4096x1 .f32) (h7 : a7.IsWhole)
    (a8 : Memref sig .tc .vmem S40x1 .i32) (h8 : a8.IsWhole)
    (x : Vec F S4096x768 .f32) (wr : Vec F S768x8 .f32) (br : Vec F S1x8 .f32) (K : PUnit → sProp 𝕄) :
    iprop(owns (c : Thread nD τ) a0 fullShare x ∗ owns (c : Thread nD τ) a1 fullShare wr ∗ owns (c : Thread nD τ) a2 fullShare br
        ∗ (∃ d, owns (c : Thread nD τ) a3 fullShare d) ∗ (∃ d, owns (c : Thread nD τ) a4 fullShare d)
        ∗ (∃ d, owns (c : Thread nD τ) a5 fullShare d) ∗ (∃ d, owns (c : Thread nD τ) a6 fullShare d)
        ∗ (∃ d, owns (c : Thread nD τ) a7 fullShare d) ∗ (∃ d, owns (c : Thread nD τ) a8 fullShare d)
        ∗ (iprop(owns (c : Thread nD τ) a0 fullShare x ∗ owns (c : Thread nD τ) a1 fullShare wr ∗ owns (c : Thread nD τ) a2 fullShare br
            ∗ owns (c : Thread nD τ) a3 fullShare (outW x wr br) ∗ owns (c : Thread nD τ) a4 fullShare (outP1 x wr br)
            ∗ owns (c : Thread nD τ) a5 fullShare (outP2 x wr br) ∗ owns (c : Thread nD τ) a6 fullShare (outN1 x wr br)
            ∗ owns (c : Thread nD τ) a7 fullShare (outN2 x wr br) ∗ owns (c : Thread nD τ) a8 fullShare (outTE x wr br)) -∗ K ⟨⟩))
      ⊢ wp frame (wpE (defs₀ (F := F)) Variants.none c none) E
          (cc0__router_kernel a0 h0 a1 h1 a2 h2 a3 h3 a4 h4 a5 h5 a6 h6 a7 h7 a8 h8) K := by
  simp only [cc0__router_kernel_eq_skeleton]; unfold cc0__router_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %e0, H0⟩, ⟨%f1, %e1, H1⟩, ⟨%f2, %e2, H2⟩, ⟨%d3, %f3, -, H3⟩, ⟨%d4, %f4, -, H4⟩, ⟨%d5, %f5, -, H5⟩,
    ⟨%d6, %f6, -, H6⟩, ⟨%d7, %f7, -, H7⟩, ⟨%d8, %f8, -, H8⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (covered off2 _ _)).trans ((View.canon_unit_zero off2 _ _).trans ?_)
    rw [readAt_whole a0.view off2, readAt_whole a1.view off2, readAt_whole a2.view off2]; rfl
  isplitl [H4]
  · iexists _; isplitr
    swap; · iexact H4
    ipureintro
    refine (View.read_writes_eq_canon _ _ _ (covered off2 _ _)).trans ((View.canon_unit_zero off2 _ _).trans ?_)
    rw [readAt_whole a0.view off2, readAt_whole a1.view off2, readAt_whole a2.view off2]; rfl
  isplitl [H5]
  · iexists _; isplitr
    swap; · iexact H5
    ipureintro
    refine (View.read_writes_eq_canon _ _ _ (covered off2 _ _)).trans ((View.canon_unit_zero off2 _ _).trans ?_)
    rw [readAt_whole a0.view off2, readAt_whole a1.view off2, readAt_whole a2.view off2]; rfl
  isplitl [H6]
  · iexists _; isplitr
    swap; · iexact H6
    ipureintro
    refine (View.read_writes_eq_canon _ _ _ (covered off2 _ _)).trans ((View.canon_unit_zero off2 _ _).trans ?_)
    rw [readAt_whole a0.view off2, readAt_whole a1.view off2, readAt_whole a2.view off2]; rfl
  isplitl [H7]
  · iexists _; isplitr
    swap; · iexact H7
    ipureintro
    refine (View.read_writes_eq_canon _ _ _ (covered off2 _ _)).trans ((View.canon_unit_zero off2 _ _).trans ?_)
    rw [readAt_whole a0.view off2, readAt_whole a1.view off2, readAt_whole a2.view off2]; rfl
  · iexists _; isplitr
    swap; · iexact H8
    ipureintro
    refine (View.read_writes_eq_canon _ _ _ (covered off2 _ _)).trans ((View.canon_unit_zero off2 _ _).trans ?_)
    rw [readAt_whole a0.view off2, readAt_whole a1.view off2, readAt_whole a2.view off2]; rfl

end Cert.KernelIdeal.Moe

end
-- ==== Proof.ExpertBody.lean ====
/-
  The expert kernel's body, for the idealized program: one grid point's tile of 256 rows through one expert's two
  layers.  Run on whole staging buffers it leaves the tile at `k1_pay1` of the five blocks it reads.
-/
module

public import proofs.«01_k».proof.Proof.RouterBody

@[expose] public section

noncomputable section

namespace Cert.KernelIdeal.Moe

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The expert body on whole staging buffers: the five inputs kept, the tile at its value. -/
theorem expert_body (c : Dev nD) (E : Set ℕ) (i : grid1.Coords)
    (a1 : Memref sig .tc .smem S40 .i32) (h1 : a1.IsWhole)
    (a2 : Memref sig .tc .vmem S256x768 .f32) (h2 : a2.IsWhole) (a3 : Memref sig .tc .vmem S1x768x768 .bf16) (h3 : a3.IsWhole)
    (a4 : Memref sig .tc .vmem S1x1x768 .f32) (h4 : a4.IsWhole) (a5 : Memref sig .tc .vmem S1x768x768 .bf16) (h5 : a5.IsWhole)
    (a6 : Memref sig .tc .vmem S1x1x768 .f32) (h6 : a6.IsWhole) (a7 : Memref sig .tc .vmem S256x768 .f32) (h7 : a7.IsWhole)
    (x : Vec F S256x768 .f32) (w1 : Vec F S1x768x768 .bf16) (b1 : Vec F S1x1x768 .f32) (w2 : Vec F S1x768x768 .bf16)
    (b2 : Vec F S1x1x768 .f32) (K : PUnit → sProp 𝕄) :
    iprop(owns (c : Thread nD τ) a2 fullShare x ∗ owns (c : Thread nD τ) a3 fullShare w1 ∗ owns (c : Thread nD τ) a4 fullShare b1
        ∗ owns (c : Thread nD τ) a5 fullShare w2 ∗ owns (c : Thread nD τ) a6 fullShare b2
        ∗ (∃ d, owns (c : Thread nD τ) a7 fullShare d)
        ∗ (iprop(owns (c : Thread nD τ) a2 fullShare x ∗ owns (c : Thread nD τ) a3 fullShare w1 ∗ owns (c : Thread nD τ) a4 fullShare b1
            ∗ owns (c : Thread nD τ) a5 fullShare w2 ∗ owns (c : Thread nD τ) a6 fullShare b2
            ∗ owns (c : Thread nD τ) a7 fullShare (k1_pay1 x w1 b1 w2 b2)) -∗ K ⟨⟩))
      ⊢ wp frame (wpE (defs₀ (F := F)) Variants.none c none) E
          (cc1__expert_kernel i a1 h1 a2 h2 a3 h3 a4 h4 a5 h5 a6 h6 a7 h7) K := by
  simp only [cc1__expert_kernel_eq_skeleton]; unfold cc1__expert_kernel_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, Hk⟩
  subst e2 e3 e4 e5 e6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (covered off2 _ _)).trans ((View.canon_unit_zero off2 _ _).trans ?_)
  rw [readAt_whole a2.view off2, readAt_whole a3.view off3, readAt_whole a4.view off3, readAt_whole a5.view off3,
    readAt_whole a6.view off3]

end Cert.KernelIdeal.Moe

end
-- ==== Proof.Regions.lean ====
/-
  The two launches as regions of the program's run, for the idealized program: the proof data of each (what the arrays
  hold at entry, what each staging buffer holds after the body), the body obligations, and the contents each launch
  leaves in its results.
-/
module

public import proofs.«01_k».proof.Proof.ExpertBody
public import proofs.«01_k».proof.Proof.Gen.KernelIdeal.Points
public import proofs.«01_k».proof.Proof.Gen.KernelIdeal.Regions
public import Idealize.ShloMosaic.Lib.Pipeline.RegionArraysTS
public import Idealize.ShloMosaic.Lib.Pipeline.FrameTail

@[expose] public section

noncomputable section

namespace Cert.KernelIdeal.Moe

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The router's launch -/

/-- The block of input window `w` of the router at the one point, from the arrays at `V`. -/
abbrev blk0 (V : Valuation τ sig (Elt F)) (w : Fin 9) : ((cfg0.win w).xblock (cfg0.grid.coords t0_0)).Idx → Elt F (cfg0.win w).elt :=
  ((cfg0.win w).blk t0_0).view.read (Elt F) (V (Proc.devRef .tc (Pipeline.arrRef spec0 w)))

/-- The router's proof data, entered at the valuation `V`. -/
def dat0 (V : Dev nD → Valuation τ sig (Elt F)) (c : Dev nD) : Dat τ (Elt F) Unit ℕ UU ℕ cfg0 c where
  A w := V c (Proc.devRef .tc (Pipeline.arrRef spec0 w))
  after w _ := match w with
    | ⟨0, _⟩ => blk0 (V c) 0
    | ⟨1, _⟩ => blk0 (V c) 1
    | ⟨2, _⟩ => blk0 (V c) 2
    | ⟨3, _⟩ => outW (blk0 (V c) 0) (blk0 (V c) 1) (blk0 (V c) 2)
    | ⟨4, _⟩ => outP1 (blk0 (V c) 0) (blk0 (V c) 1) (blk0 (V c) 2)
    | ⟨5, _⟩ => outP2 (blk0 (V c) 0) (blk0 (V c) 1) (blk0 (V c) 2)
    | ⟨6, _⟩ => outN1 (blk0 (V c) 0) (blk0 (V c) 1) (blk0 (V c) 2)
    | ⟨7, _⟩ => outN2 (blk0 (V c) 0) (blk0 (V c) 1) (blk0 (V c) 2)
    | ⟨8, _⟩ => outTE (blk0 (V c) 0) (blk0 (V c) 1) (blk0 (V c) 2)
  Φ _ := Pipeline.scopedRest spec0 c
  q _ := fullShare
  owed _ := 0

theorem before0_0 (V : Dev nD → Valuation τ sig (Elt F)) (c : Dev nD) (d) : (dat0 V c).before 0 t0_0 d = blk0 (V c) 0 := by
  unfold Dat.before; rw [if_pos (fetch0_0 t0_0)]; rfl
theorem before0_1 (V : Dev nD → Valuation τ sig (Elt F)) (c : Dev nD) (d) : (dat0 V c).before 1 t0_0 d = blk0 (V c) 1 := by
  unfold Dat.before; rw [if_pos (fetch0_1 t0_0)]; rfl
theorem before0_2 (V : Dev nD → Valuation τ sig (Elt F)) (c : Dev nD) (d) : (dat0 V c).before 2 t0_0 d = blk0 (V c) 2 := by
  unfold Dat.before; rw [if_pos (fetch0_2 t0_0)]; rfl

set_option backward.isDefEq.respectTransparency.types false in
/-- The router's body at its one point. -/
theorem oblig0 (V : Dev nD → Valuation τ sig (Elt F)) (c : Dev nD) :
    BodyObligation (dat0 V c) (defs₀ (F := F)) Variants.none () Set.univ := fun t => by
  obtain rfl := fin_N0 t
  rw [bigSep_W0, bigSep_W0]
  rw [show (dat0 V c).Φ t0_0.castSucc = Pipeline.scopedRest spec0 c from rfl, show (dat0 V c).Φ t0_0.succ = Pipeline.scopedRest spec0 c from rfl,
    show (dat0 V c).owesAt () t0_0.succ = (dat0 V c).owesAt () t0_0.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0, before0_1, before0_2]
  iapply (router_body c Set.univ _ _ _ _ _ _ _ _ _ _ _ _ _ _ _ _ _ _ (blk0 (V c) 0) (blk0 (V c) 1) (blk0 (V c) 2) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The expert's launch -/

/-- The block of window `w` of the expert launch at point `t`, from the arrays at `V`. -/
abbrev blk1 (a : (pcfg1 (F := F)).Adm) (V : Valuation τ sig (Elt F)) (w : Fin 6) (t : Fin (cfg1 a).N) :
    (((cfg1 a).win w).xblock ((cfg1 a).grid.coords t)).Idx → Elt F ((cfg1 a).win w).elt :=
  (((cfg1 a).win w).blk t).view.read (Elt F) (V (Proc.devRef .tc (Pipeline.arrRef spec1 w)))

/-- What the tile of point `t` holds after the body. -/
abbrev tile (a : (pcfg1 (F := F)).Adm) (V : Valuation τ sig (Elt F)) (t : Fin (cfg1 a).N) : FVec F S256x768 .f32 :=
  k1_pay1 (blk1 a V 0 t) (blk1 a V 1 t) (blk1 a V 2 t) (blk1 a V 3 t) (blk1 a V 4 t)

/-- The expert launch's proof data at admissible table contents `a`, entered at the valuation `V`. -/
def dat1 (a : (pcfg1 (F := F)).Adm) (V : Dev nD → Valuation τ sig (Elt F)) (c : Dev nD) : Dat τ (Elt F) Unit ℕ UU ℕ (cfg1 a) c where
  A w := V c (Proc.devRef .tc (Pipeline.arrRef spec1 w))
  after w t := match w with
    | ⟨0, _⟩ => blk1 a (V c) 0 t
    | ⟨1, _⟩ => blk1 a (V c) 1 t
    | ⟨2, _⟩ => blk1 a (V c) 2 t
    | ⟨3, _⟩ => blk1 a (V c) 3 t
    | ⟨4, _⟩ => blk1 a (V c) 4 t
    | ⟨5, _⟩ => tile a (V c) t
  Φ _ := iprop(Pipeline.scopedRest spec1 c ∗ Pipeline.prefHeld pre1 c (fun _ => fullShare) a.1)
  q _ := fullShare
  owed _ := 0

/-- An input window's staging buffer holds its block at every point, fetched there or not. -/
theorem before1 (a : (pcfg1 (F := F)).Adm) (V : Dev nD → Valuation τ sig (Elt F)) (c : Dev nD) (t : Fin (cfg1 a).N) :
    (∀ d, (dat1 a V c).before 0 t d = blk1 a (V c) 0 t) ∧ (∀ d, (dat1 a V c).before 1 t d = blk1 a (V c) 1 t)
    ∧ (∀ d, (dat1 a V c).before 2 t d = blk1 a (V c) 2 t) ∧ (∀ d, (dat1 a V c).before 3 t d = blk1 a (V c) 3 t)
    ∧ (∀ d, (dat1 a V c).before 4 t d = blk1 a (V c) 4 t) := by
  refine ⟨fun d => ?_, fun d => ?_, fun d => ?_, fun d => ?_, fun d => ?_⟩
  · exact ((dat1 a V c).before_in_eq_fetched 0 rfl (fun _ => rfl) (fun _ _ _ => rfl) (fun _ => rfl) t d).trans rfl
  · exact ((dat1 a V c).before_in_eq_fetched 1 rfl (fun _ => rfl) (fun _ _ _ => rfl) (fun _ => rfl) t d).trans rfl
  · exact ((dat1 a V c).before_in_eq_fetched 2 rfl (fun _ => rfl) (fun _ _ _ => rfl) (fun _ => rfl) t d).trans rfl
  · exact ((dat1 a V c).before_in_eq_fetched 3 rfl (fun _ => rfl) (fun _ _ _ => rfl) (fun _ => rfl) t d).trans rfl
  · exact ((dat1 a V c).before_in_eq_fetched 4 rfl (fun _ => rfl) (fun _ _ _ => rfl) (fun _ => rfl) t d).trans rfl

/-- The expert body at point `t`, on what the pipeline calls it with. -/
abbrev bodyAt1 (a : (pcfg1 (F := F)).Adm) (t : Fin (cfg1 a).N) : Prog (TpuEff nD τ sig (Elt F) Λ₀ .tc) PUnit :=
  cc1__expert_kernel (grid1.coords t) (Memref.whole main_v18) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))
    (spec1_5.stage ((cfg1 a).slots t 5)) (hstage1_5 (((cfg1 a).slots t 5).cast nbuf1_5))

/-- What the body is called with at point `t`, and what it returns, window by window. -/
def bodyPre1 (a : (pcfg1 (F := F)).Adm) (V : Dev nD → Valuation τ sig (Elt F)) (c : Dev nD) (t : Fin (cfg1 a).N) : sProp 𝕄 :=
  iprop((dat1 a V c).Φ t.castSucc ∗ (dat1 a V c).owesAt () t.castSucc
    ∗ (∃ d, owns (c : Thread nD τ) (spec1_0.stage ((cfg1 a).slots t 0)) fullShare ((dat1 a V c).before 0 t d))
    ∗ (∃ d, owns (c : Thread nD τ) (spec1_1.stage ((cfg1 a).slots t 1)) fullShare ((dat1 a V c).before 1 t d))
    ∗ (∃ d, owns (c : Thread nD τ) (spec1_2.stage ((cfg1 a).slots t 2)) fullShare ((dat1 a V c).before 2 t d))
    ∗ (∃ d, owns (c : Thread nD τ) (spec1_3.stage ((cfg1 a).slots t 3)) fullShare ((dat1 a V c).before 3 t d))
    ∗ (∃ d, owns (c : Thread nD τ) (spec1_4.stage ((cfg1 a).slots t 4)) fullShare ((dat1 a V c).before 4 t d))
    ∗ (∃ d, owns (c : Thread nD τ) (spec1_5.stage ((cfg1 a).slots t 5)) fullShare ((dat1 a V c).before 5 t d)))
def bodyPost1 (a : (pcfg1 (F := F)).Adm) (V : Dev nD → Valuation τ sig (Elt F)) (c : Dev nD) (t : Fin (cfg1 a).N) : sProp 𝕄 :=
  iprop((dat1 a V c).Φ t.succ ∗ (dat1 a V c).owesAt () t.succ
    ∗ owns (c : Thread nD τ) (spec1_0.stage ((cfg1 a).slots t 0)) fullShare ((dat1 a V c).after 0 t)
    ∗ owns (c : Thread nD τ) (spec1_1.stage ((cfg1 a).slots t 1)) fullShare ((dat1 a V c).after 1 t)
    ∗ owns (c : Thread nD τ) (spec1_2.stage ((cfg1 a).slots t 2)) fullShare ((dat1 a V c).after 2 t)
    ∗ owns (c : Thread nD τ) (spec1_3.stage ((cfg1 a).slots t 3)) fullShare ((dat1 a V c).after 3 t)
    ∗ owns (c : Thread nD τ) (spec1_4.stage ((cfg1 a).slots t 4)) fullShare ((dat1 a V c).after 4 t)
    ∗ owns (c : Thread nD τ) (spec1_5.stage ((cfg1 a).slots t 5)) fullShare ((dat1 a V c).after 5 t))

theorem sound1 (a : (pcfg1 (F := F)).Adm) (V : Dev nD → Valuation τ sig (Elt F)) (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  obtain ⟨h0, h1, h2, h3, h4⟩ := before1 a V c t
  simp only [h0, h1, h2, h3, h4]
  rw [show (dat1 a V c).Φ t.succ = (dat1 a V c).Φ t.castSucc from rfl,
    show (dat1 a V c).owesAt () t.succ = (dat1 a V c).owesAt () t.castSucc from rfl,
    show (dat1 a V c).after 0 t = blk1 a (V c) 0 t from rfl, show (dat1 a V c).after 1 t = blk1 a (V c) 1 t from rfl,
    show (dat1 a V c).after 2 t = blk1 a (V c) 2 t from rfl, show (dat1 a V c).after 3 t = blk1 a (V c) 3 t from rfl,
    show (dat1 a V c).after 4 t = blk1 a (V c) 4 t from rfl, show (dat1 a V c).after 5 t = tile a (V c) t from rfl]
  iintro ⟨HΦ, Howes, ⟨%d0, H0⟩, ⟨%d1, H1⟩, ⟨%d2, H2⟩, ⟨%d3, H3⟩, ⟨%d4, H4⟩, ⟨%d5, H5⟩⟩
  iapply (expert_body c Set.univ _ _ _ _ _ _ _ _ _ _ _ _ _ _ _ (blk1 a (V c) 0 t) (blk1 a (V c) 1 t) (blk1 a (V c) 2 t)
    (blk1 a (V c) 3 t) (blk1 a (V c) 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-- The expert body at every point. -/
theorem oblig1 (a : (pcfg1 (F := F)).Adm) (V : Dev nD → Valuation τ sig (Elt F)) (c : Dev nD) :
    BodyObligation (dat1 a V c) (defs₀ (F := F)) Variants.none () Set.univ := fun t => by
  rw [bigSep_W1, bigSep_W1]
  exact sound1 a V c t

end Cert.KernelIdeal.Moe

end
-- ==== Proof.Run.lean ====
/-
  The whole run of the idealized program: @main's host stretches and its two launches chained, so that every weakly
  fair execution terminates with every unscoped buffer at a named final valuation.  It is stated from the one fact the
  expert launch checks of its table (`ok1`: every entry names an expert).
-/
module

public import proofs.«01_k».proof.Proof.Regions

@[expose] public section

noncomputable section

namespace Cert.KernelIdeal.Moe

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F]

local notation "𝕄" => MT nD τ sig Unit (Elt F) ℕ UU ℕ

variable (m : (ℓ : Loc nD τ sig) → Buf (Elt F) ℓ)

/-! ## What the launches leave -/

/-- What the router's launch leaves in every buffer. -/
abbrev outs0 : Outs (F := F) := fun _ r c => Pipeline.afterRegion (dat0 (V1 m) c) (V1 m c) (Proc.devRef .tc r)

/-- The table the expert launch reads: the host's reshape of the router's tile table. -/
def table : pre1.Contents (Elt F) := fun k => V5 m (outs0 m) 0 (Proc.devRef .tc (pre1.ref k))

variable (hok : ok1 (table m))

/-- The admissible contents of the two launches' tables. -/
def adm : (p : Fin 2) → (pcfgs (F := F) p).Adm
  | ⟨0, _⟩ => ⟨fun k => k.elim0, trivial⟩
  | ⟨1, _⟩ => ⟨table m, hok⟩

/-- What both launches leave. -/
abbrev outs : Outs (F := F) := fun J r c => match J with
  | 2 => outs0 m 2 r c
  | _ => Pipeline.afterRegion (dat1 ⟨table m, hok⟩ (V5 m (outs0 m)) c) (V5 m (outs0 m) c) (Proc.devRef .tc r)

/-- Both launches' proof data. -/
def pdats : (p : Fin 2) → (c : Dev nD) → Dat τ (Elt F) Unit ℕ UU ℕ (Pipeline.pin (pcfgs (F := F)) (adm m hok) p) c
  | ⟨0, _⟩ => fun c => dat0 (V1 m) c
  | ⟨1, _⟩ => fun c => dat1 ⟨table m, hok⟩ (V5 m (outs0 m)) c

/-! ## Levels and what rides along -/

/-- Every TensorCore cell carries the one name, at level 0; no core owes another anything. -/
abbrev lvlNames : GSem nD τ sig → Finset Unit := fun g => if g.1.2 = .tc then Finset.univ else ∅
abbrev lvl : GSem nD τ sig → Unit → ℕ := fun _ _ => 0

/-- What rides beside the buffers: the core's `owes`. -/
abbrev ride (c : Dev nD) : sProp 𝕄 :=
  iprop((∃ W, owes (c : Thread nD τ) (0 : CellTallies nD τ sig Unit) W) ∗ BI.emp ∗ BI.emp)

theorem levelCut (p : Fin 2) : Pipeline.LevelCut (pcfgs (F := F)) (adm m hok) () lvlNames lvl p (fun _ => 0) (fun _ => 0) where
  hι _ _ _ := by simp [lvlNames]
  hιb _ _ _ := Nat.le_refl 0
  hD _ _ _ h := absurd h (lt_irrefl _)

set_option backward.isDefEq.respectTransparency.types false in
/-- The router's launch as a region over all unscoped buffers. -/
def region0 : RegionSeg (pcfgs (F := F)) (adm m hok) (pdats m hok) () defs₀ Variants.none lvlNames lvl 0 :=
  RegionSeg.ofHeldIn (pcfgs (F := F)) (adm m hok) (pdats m hok) () defs₀ Variants.none lvlNames lvl 0 (fun _ => 0)
    (Pipeline.ucRefs τ sig) (fun _ => BI.emp) (fun _ => BI.emp) launch0 rfl
    (fun c => (oblig0 (V1 m) c).loose) (fun _ _ => rfl) (fun _ => rfl)
    (fun c => (dat0 (V1 m) c).share_full fun _ => rfl)
    (fun c => by
      rw [show (pdats m hok 0 c).Φ 0 = Pipeline.scopedRest spec0 c from rfl]
      iintro ⟨H, -⟩; iexact H)
    (fun c => by
      rw [show (pdats m hok 0 c).Φ (Fin.last _) = Pipeline.scopedRest spec0 c from rfl]
      iintro H; isplitl [H]; · iexact H
      iempintro)
    (fun _ => 0) (levelCut m hok 0) (fun _ => BI.emp) (V1 m) (fun _ _ => rfl)

set_option backward.isDefEq.respectTransparency.types false in
/-- The expert launch as a region over all unscoped buffers. -/
def region1 : RegionSeg (pcfgs (F := F)) (adm m hok) (pdats m hok) () defs₀ Variants.none lvlNames lvl 1 :=
  RegionSeg.ofHeldInT (pcfgs (F := F)) (adm m hok) (pdats m hok) () defs₀ Variants.none lvlNames lvl 1 (fun _ => 0)
    (Pipeline.ucRefs τ sig) (fun _ => BI.emp) (fun _ => BI.emp) launch1
    (fun c => (oblig1 ⟨table m, hok⟩ (V5 m (outs0 m)) c).loose) (fun _ _ => rfl) (fun _ => rfl)
    (fun c => (dat1 ⟨table m, hok⟩ (V5 m (outs0 m)) c).share_full fun _ => rfl)
    (fun c => by
      rw [show (pdats m hok 1 c).Φ 0 = iprop(Pipeline.scopedRest spec1 c ∗ Pipeline.prefHeld pre1 c (fun _ => fullShare) (table m)) from rfl]
      iintro ⟨⟨H, -⟩, Ht⟩; isplitl [H]; · iexact H
      iexact Ht)
    (fun c => by
      rw [show (pdats m hok 1 c).Φ (Fin.last _) = iprop(Pipeline.scopedRest spec1 c ∗ Pipeline.prefHeld pre1 c (fun _ => fullShare) (table m)) from rfl]
      iintro ⟨H, Ht⟩
      isplitl [H]
      · isplitl [H]; · iexact H
        iempintro
      iexact Ht)
    (fun _ => 0) (levelCut m hok 1) (fun _ => BI.emp) (V5 m (outs0 m)) (fun _ _ => rfl)
    (fun c k => by rw [show c = 0 from Subsingleton.elim _ _]; rfl)

/-! ## What the launches leave, on the unscoped buffers -/

/-- After the router's launch the unscoped buffers are at `V2`. -/
theorem left0 (c : Dev nD) (b : DevRef τ sig) (hb : b ∈ Pipeline.ucRefs τ sig) :
    Pipeline.afterRegion (dat0 (V1 m) c) (V1 m c) b = V2 m (outs m hok) c b := by
  obtain ⟨r, -, rfl⟩ := Finset.mem_map.mp (Finset.mem_filter.mp hb).1
  show Pipeline.afterRegion (dat0 (V1 m) c) (V1 m c) (Proc.devRef .tc r) = V2 m (outs m hok) c (Proc.devRef .tc r)
  by_cases h : r ∈ ([main_v1_0, main_v1_1, main_v1_2, main_v1_3, main_v1_4, main_v1_5] : List (Ref sig .tc))
  · fin_cases h <;> (simp only [V2, Function.update]; rfl)
  · rw [V2_of m (outs m hok) c r h]
    refine Pipeline.afterRegion_keeps (dat0 (V1 m) c) (V1 m c) (launch0 (F := F)).win.arr_inj (fun _ => rfl) r fun w hw => ?_
    subst hw
    revert h; revert w; decide

/-- After the expert launch the unscoped buffers are at `V6`. -/
theorem left1 (c : Dev nD) (b : DevRef τ sig) (hb : b ∈ Pipeline.ucRefs τ sig) :
    Pipeline.afterRegion (dat1 ⟨table m, hok⟩ (V5 m (outs0 m)) c) (V5 m (outs0 m) c) b = V6 m (outs m hok) c b := by
  obtain ⟨r, -, rfl⟩ := Finset.mem_map.mp (Finset.mem_filter.mp hb).1
  show Pipeline.afterRegion (dat1 ⟨table m, hok⟩ (V5 m (outs0 m)) c) (V5 m (outs0 m) c) (Proc.devRef .tc r) = V6 m (outs m hok) c (Proc.devRef .tc r)
  by_cases h : r ∈ ([main_v21] : List (Ref sig .tc))
  · obtain rfl := List.mem_singleton.mp h
    exact (Function.update_self (Proc.devRef .tc main_v21 : DevRef τ sig) _ (V5 m (outs m hok) c)).symm
  · rw [V6_of m (outs m hok) c r h]
    refine Pipeline.afterRegion_keeps (dat1 ⟨table m, hok⟩ (V5 m (outs0 m)) c) (V5 m (outs0 m) c) (launch1 (F := F)).win.arr_inj (fun _ => rfl) r fun w hw => ?_
    subst hw
    match w with
    | ⟨0, _⟩ => rfl
    | ⟨1, _⟩ => rfl
    | ⟨2, _⟩ => rfl
    | ⟨3, _⟩ => rfl
    | ⟨4, _⟩ => rfl
    | ⟨5, _⟩ => exact absurd (List.mem_singleton.mpr rfl) h

theorem arr0_sub : Pipeline.arrRefs (pcfgs (F := F) 0).spec ⊆ Pipeline.ucRefs τ sig :=
  show Pipeline.arrRefs spec0 ⊆ _ from Pipeline.arrRefs_sub_ucRefs _ (by decide)
theorem arr1_sub : Pipeline.arrRefs (pcfgs (F := F) 1).spec ⊆ Pipeline.ucRefs τ sig :=
  show Pipeline.arrRefs spec1 ⊆ _ from Pipeline.arrRefs_sub_ucRefs _ (by decide)
theorem tbl1_sub : Pipeline.tblRefs (pcfgs (F := F) 1).pre ⊆ Pipeline.ucRefs τ sig :=
  show Pipeline.tblRefs pre1 ⊆ _ from Pipeline.tblRefs_sub_ucRefs _ (by decide)

set_option backward.isDefEq.respectTransparency.types false in
theorem enter0 (c : Dev nD) :
    iprop(StableHlo.held (c : Thread nD τ) (Pipeline.ucRefs τ sig) (V1 m c) ∗ ride c) ⊢ (region0 m hok).pre c := by
  unfold region0
  refine RegionSeg.ofHeldIn_pre (D := fun _ => 0) (X := fun _ => BI.emp) (Y := fun _ => BI.emp) (R := fun _ => BI.emp) (W := V1 m) (hS := by exact arr0_sub (F := F)) c

set_option backward.isDefEq.respectTransparency.types false in
theorem leave0 (c : Dev nD) :
    (region0 m hok).post c ⊢ iprop(StableHlo.held (c : Thread nD τ) (Pipeline.ucRefs τ sig) (V2 m (outs m hok) c) ∗ ride c) := by
  refine BIBase.Entails.trans (Q := iprop(StableHlo.held (c : Thread nD τ) (Pipeline.ucRefs τ sig)
    (Pipeline.afterRegion (dat0 (V1 m) c) (V1 m c)) ∗ ride c)) ?_ ?_
  · unfold region0
    exact RegionSeg.ofHeldIn_post (hS := by exact arr0_sub (F := F)) c
  · exact sep_mono (Entails.of_eq (StableHlo.held_congr (c : Thread nD τ) (left0 m hok c))) .rfl

set_option backward.isDefEq.respectTransparency.types false in
theorem enter1 (c : Dev nD) :
    iprop(StableHlo.held (c : Thread nD τ) (Pipeline.ucRefs τ sig) (V5 m (outs0 m) c) ∗ ride c) ⊢ (region1 m hok).pre c := by
  unfold region1
  refine RegionSeg.ofHeldInT_pre (D := fun _ => 0) (X := fun _ => BI.emp) (Y := fun _ => BI.emp) (R := fun _ => BI.emp) (W := V5 m (outs0 m)) (hS := by exact arr1_sub (F := F)) (hS' := by exact tbl1_sub (F := F)) c

set_option backward.isDefEq.respectTransparency.types false in
theorem leave1 (c : Dev nD) :
    (region1 m hok).post c ⊢ iprop(StableHlo.held (c : Thread nD τ) (Pipeline.ucRefs τ sig) (V6 m (outs m hok) c) ∗ ride c) := by
  refine BIBase.Entails.trans (Q := iprop(StableHlo.held (c : Thread nD τ) (Pipeline.ucRefs τ sig)
    (Pipeline.afterRegion (dat1 ⟨table m, hok⟩ (V5 m (outs0 m)) c) (V5 m (outs0 m) c)) ∗ ride c)) ?_ ?_
  · unfold region1
    exact RegionSeg.ofHeldInT_post (hS := by exact arr1_sub (F := F)) (hS' := by exact tbl1_sub (F := F)) c
  · exact sep_mono (Entails.of_eq (StableHlo.held_congr (c : Thread nD τ) (left1 m hok c))) .rfl

/-! ## The run -/

/-- The launch's user element: the pipelines' cells and transfers; no counter yet. -/
def u₀ : UU := (initOf (Pipeline.cells (Pipeline.pin (pcfgs (F := F)) (adm m hok)) (cellOf_inj (adm m hok)))
  (Pipeline.launchToks (Pipeline.pin (pcfgs (F := F)) (adm m hok)) (cellOf_inj (adm m hok))), 1)

/-- The final valuation of core `c`'s unscoped buffers. -/
abbrev final (c : Dev nD) : Valuation τ sig (Elt F) := V7 m (outs m hok) c

set_option backward.isDefEq.respectTransparency.types false in
/-- Every weakly fair execution of @main terminates, with every unscoped buffer at the final valuation and every
    semaphore counter at zero. -/
theorem run (ρ : Dev nD → PrngReg) :
    θ_run defs (onTc (τ := τ) (main (F := F))) ⟨m, fun _ => 0, ρ⟩ (fun r => (∀ c : Dev nD, ∀ b : Ref sig .tc,
      b.isScoped = false → r.2.mem ((c.tc : Thread nD τ).loc b) = final m hok c (Proc.devRef .tc b)) ∧ r.2.sem = fun _ => 0) := by
  refine Pipeline.θ_run_regions_kit_dev_sems (pcfgs (F := F)) (adm m hok) (pdats m hok) () (cellOf_inj (adm m hok)) embL defs₀ Variants.none
    lvlNames lvl m ρ main (segs m (outs m hok) Variants.none lvlNames lvl (fun _ => ride) () (adm m hok) (pdats m hok) (region0 m hok) (region1 m hok))
    (fun c Q => by
      rewrite [main_chain c, Seg.run_eq_chain,
        show (segs m (outs m hok) Variants.none lvlNames lvl (fun _ => ride) () (adm m hok) (pdats m hok) (region0 m hok) (region1 m hok) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide)
    (fun _ => 0) (fun g hg => by simp [lvlNames, hg]) (fun _ => BI.emp) (u₀ m hok) ?_
    (T₀ := fun c => iprop(StableHlo.held (c : Thread nD τ) (Pipeline.ucRefs τ sig) (V0 m c) ∗ ride c))
    (Tₙ := fun c => StableHlo.held (c : Thread nD τ) (Pipeline.ucRefs τ sig) (final m hok c))
    (hch := fun c => ⟨.rfl, ?pre0, ?post0, .rfl, .rfl, ?pre1, ?post1, sep_mono .rfl ?fin⟩)
    (hinit := ?_)
    (QY := fun c s => ∀ b : Ref sig .tc, b.isScoped = false → s.mem ((c.tc : Thread nD τ).loc b) = final m hok c (Proc.devRef .tc b))
    (hfin := fun c s' => ?_) (hQ := fun _ h hz => ⟨h, funext fun g => hz g (.inr (regions_no_unscoped g.2))⟩)
  case pre0 => exact enter0 m hok c
  case post0 => exact leave0 m hok c
  case pre1 => exact enter1 m hok c
  case post1 => exact leave1 m hok c
  case fin =>
    iintro ⟨H, -⟩; iexact H
  · refine (ownU_pair _ _).trans ?_
    iintro ⟨H, -⟩
    imodintro
    isplitl [H]; · iexact H
    rw [show (bigSep Finset.univ fun _ : Dev nD => BI.emp) = (BI.emp : sProp 𝕄) from bigSep_emp_const _]
    iempintro
  · refine Pipeline.initEach lvlNames lvl fun c => ?_
    rw [← Pipeline.unscopedBufs_held (Ix := Unit) (Name := ℕ) (U := UU) (Lvl := ℕ) c (V0 m c)]
    iintro ⟨⟨Hb, -, HO, -⟩, -⟩
    imodintro
    isplitl [Hb]; · iexact Hb
    isplitl [HO]; · iexists _; iexact HO
    isplitl []; · iempintro
    iempintro
  · unfold StableHlo.held
    iintro ⟨Hh, HSI⟩
    ihave Hr := (pointsTo_read_all (Pipeline.ucRefs τ sig) (fun b => ((c : Thread nD τ).1, b)) (final m hok c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    · iexact HSI

end Cert.KernelIdeal.Moe

end
-- ==== Proof.Left.lean ====
/-
  What the router's launch leaves in its six results, the table the expert launch prefetches, and the side condition on
  that table from a bound on its entries.
-/
module

public import proofs.«01_k».proof.Proof.Run
public import Idealize.ShloMosaic.Lib.StableHlo.RunRead

@[expose] public section

noncomputable section

namespace Cert.KernelIdeal.Moe

open Cert.KernelIdeal Cert.KernelIdeal.Gen

open Idealize.ShloMosaic Idealize.ShloMosaic.TcCoe Idealize.ShloMosaic.Tactic
open Idealize.ShloMosaic.Pipeline (Dat Cfg Window BodyObligation cellOf RegionSeg Seg)

variable {F : FTy → Type} [FloatOps F]
variable (m : (ℓ : Loc nD τ sig) → Buf (Elt F) ℓ)

/-! ## The router's blocks are its whole arrays -/

theorem emb0_0 (y : S4096x768.Idx) : ((cfg0.win 0).blk t0_0).view.emb y = y := by
  funext a; exact Fin.ext ((cfg0.win 0).rect_emb_val_of_index_zero t0_0 a (by revert a; decide) y)
theorem emb0_1 (y : S768x8.Idx) : ((cfg0.win 1).blk t0_0).view.emb y = y := by
  funext a; exact Fin.ext ((cfg0.win 1).rect_emb_val_of_index_zero t0_0 a (by revert a; decide) y)
theorem emb0_2 (y : S1x8.Idx) : ((cfg0.win 2).blk t0_0).view.emb y = y := by
  funext a; exact Fin.ext ((cfg0.win 2).rect_emb_val_of_index_zero t0_0 a (by revert a; decide) y)
theorem emb0_3 (y : S4096x8.Idx) : ((cfg0.win 3).blk t0_0).view.emb y = y := by
  funext a; exact Fin.ext ((cfg0.win 3).rect_emb_val_of_index_zero t0_0 a (by revert a; decide) y)
theorem emb0_4 (y : S4096x1.Idx) : ((cfg0.win 4).blk t0_0).view.emb y = y := by
  funext a; exact Fin.ext ((cfg0.win 4).rect_emb_val_of_index_zero t0_0 a (by revert a; decide) y)
theorem emb0_5 (y : S4096x1.Idx) : ((cfg0.win 5).blk t0_0).view.emb y = y := by
  funext a; exact Fin.ext ((cfg0.win 5).rect_emb_val_of_index_zero t0_0 a (by revert a; decide) y)
theorem emb0_6 (y : S4096x1.Idx) : ((cfg0.win 6).blk t0_0).view.emb y = y := by
  funext a; exact Fin.ext ((cfg0.win 6).rect_emb_val_of_index_zero t0_0 a (by revert a; decide) y)
theorem emb0_7 (y : S4096x1.Idx) : ((cfg0.win 7).blk t0_0).view.emb y = y := by
  funext a; exact Fin.ext ((cfg0.win 7).rect_emb_val_of_index_zero t0_0 a (by revert a; decide) y)
theorem emb0_8 (y : S40x1.Idx) : ((cfg0.win 8).blk t0_0).view.emb y = y := by
  funext a; exact Fin.ext ((cfg0.win 8).rect_emb_val_of_index_zero t0_0 a (by revert a; decide) y)

theorem whole0_0 (G : Vec F S4096x768 .f32) : ((cfg0.win 0).blk t0_0).view.read (Elt F) G = G := by
  funext y; exact congrArg G (emb0_0 y)
theorem whole0_1 (G : Vec F S768x8 .f32) : ((cfg0.win 1).blk t0_0).view.read (Elt F) G = G := by
  funext y; exact congrArg G (emb0_1 y)
theorem whole0_2 (G : Vec F S1x8 .f32) : ((cfg0.win 2).blk t0_0).view.read (Elt F) G = G := by
  funext y; exact congrArg G (emb0_2 y)
theorem whole0_3 (G : Vec F S4096x8 .f32) : ((cfg0.win 3).blk t0_0).view.read (Elt F) G = G := by
  funext y; exact congrArg G (emb0_3 y)
theorem whole0_4 (G : Vec F S4096x1 .i32) : ((cfg0.win 4).blk t0_0).view.read (Elt F) G = G := by
  funext y; exact congrArg G (emb0_4 y)
theorem whole0_5 (G : Vec F S4096x1 .i32) : ((cfg0.win 5).blk t0_0).view.read (Elt F) G = G := by
  funext y; exact congrArg G (emb0_5 y)
theorem whole0_6 (G : Vec F S4096x1 .f32) : ((cfg0.win 6).blk t0_0).view.read (Elt F) G = G := by
  funext y; exact congrArg G (emb0_6 y)
theorem whole0_7 (G : Vec F S4096x1 .f32) : ((cfg0.win 7).blk t0_0).view.read (Elt F) G = G := by
  funext y; exact congrArg G (emb0_7 y)
theorem whole0_8 (G : Vec F S40x1 .i32) : ((cfg0.win 8).blk t0_0).view.read (Elt F) G = G := by
  funext y; exact congrArg G (emb0_8 y)

/-! ## The arguments as the router reads them -/

/-- The token rows, the router's matrix, and its bias as one row. -/
abbrev argX (c : Dev nD) : FVec F S4096x768 .f32 := m ((c : Thread nD τ).loc main_arg0)
abbrev argWr (c : Dev nD) : FVec F S768x8 .f32 := m ((c : Thread nD τ).loc main_arg1)
abbrev argBr (c : Dev nD) : FVec F S1x8 .f32 := shapeCast S1x8 (m ((c : Thread nD τ).loc main_arg2)) shapeCasts_S8_S1x8

theorem in0_0 (c : Dev nD) : blk0 (V1 m c) 0 = argX m c :=
  (whole0_0 _).trans (V1_of m c main_arg0 (by decide))
theorem in0_1 (c : Dev nD) : blk0 (V1 m c) 1 = argWr m c :=
  (whole0_1 _).trans (V1_of m c main_arg1 (by decide))
theorem in0_2 (c : Dev nD) : blk0 (V1 m c) 2 = argBr m c := by
  refine (whole0_2 _).trans ?_
  show StableHlo.after hostOps0 (V0 m c) (Proc.devRef .tc main_v0) = _
  after_reads_simp
  rfl

/-! ## The six results -/

theorem left_w (c : Dev nD) : outs0 m 2 main_v1_0 c = outW (argX m c) (argWr m c) (argBr m c) := by
  rw [← in0_0 m c, ← in0_1 m c, ← in0_2 m c]
  refine (Pipeline.afterRegion_arr (dat0 (V1 m) c) (V1 m c) (launch0 (F := F)).win.arr_inj 3).trans ?_
  refine Dat.arrAt_eq_of_cover _ 3 _ (fun t _ => ?_) (fun i => ⟨t0_0, flush0_3 _, ?_⟩)
  · obtain rfl := fin_N0 t; exact (whole0_3 _).symm
  · rw [← emb0_3 i]; exact View.emb_mem_set _ _
theorem left_p1 (c : Dev nD) : outs0 m 2 main_v1_1 c = outP1 (argX m c) (argWr m c) (argBr m c) := by
  rw [← in0_0 m c, ← in0_1 m c, ← in0_2 m c]
  refine (Pipeline.afterRegion_arr (dat0 (V1 m) c) (V1 m c) (launch0 (F := F)).win.arr_inj 4).trans ?_
  refine Dat.arrAt_eq_of_cover _ 4 _ (fun t _ => ?_) (fun i => ⟨t0_0, flush0_4 _, ?_⟩)
  · obtain rfl := fin_N0 t; exact (whole0_4 _).symm
  · rw [← emb0_4 i]; exact View.emb_mem_set _ _
theorem left_p2 (c : Dev nD) : outs0 m 2 main_v1_2 c = outP2 (argX m c) (argWr m c) (argBr m c) := by
  rw [← in0_0 m c, ← in0_1 m c, ← in0_2 m c]
  refine (Pipeline.afterRegion_arr (dat0 (V1 m) c) (V1 m c) (launch0 (F := F)).win.arr_inj 5).trans ?_
  refine Dat.arrAt_eq_of_cover _ 5 _ (fun t _ => ?_) (fun i => ⟨t0_0, flush0_5 _, ?_⟩)
  · obtain rfl := fin_N0 t; exact (whole0_5 _).symm
  · rw [← emb0_5 i]; exact View.emb_mem_set _ _
theorem left_n1 (c : Dev nD) : outs0 m 2 main_v1_3 c = outN1 (argX m c) (argWr m c) (argBr m c) := by
  rw [← in0_0 m c, ← in0_1 m c, ← in0_2 m c]
  refine (Pipeline.afterRegion_arr (dat0 (V1 m) c) (V1 m c) (launch0 (F := F)).win.arr_inj 6).trans ?_
  refine Dat.arrAt_eq_of_cover _ 6 _ (fun t _ => ?_) (fun i => ⟨t0_0, flush0_6 _, ?_⟩)
  · obtain rfl := fin_N0 t; exact (whole0_6 _).symm
  · rw [← emb0_6 i]; exact View.emb_mem_set _ _
theorem left_n2 (c : Dev nD) : outs0 m 2 main_v1_4 c = outN2 (argX m c) (argWr m c) (argBr m c) := by
  rw [← in0_0 m c, ← in0_1 m c, ← in0_2 m c]
  refine (Pipeline.afterRegion_arr (dat0 (V1 m) c) (V1 m c) (launch0 (F := F)).win.arr_inj 7).trans ?_
  refine Dat.arrAt_eq_of_cover _ 7 _ (fun t _ => ?_) (fun i => ⟨t0_0, flush0_7 _, ?_⟩)
  · obtain rfl := fin_N0 t; exact (whole0_7 _).symm
  · rw [← emb0_7 i]; exact View.emb_mem_set _ _
theorem left_te (c : Dev nD) : outs0 m 2 main_v1_5 c = outTE (argX m c) (argWr m c) (argBr m c) := by
  rw [← in0_0 m c, ← in0_1 m c, ← in0_2 m c]
  refine (Pipeline.afterRegion_arr (dat0 (V1 m) c) (V1 m c) (launch0 (F := F)).win.arr_inj 8).trans ?_
  refine Dat.arrAt_eq_of_cover _ 8 _ (fun t _ => ?_) (fun i => ⟨t0_0, flush0_8 _, ?_⟩)
  · obtain rfl := fin_N0 t; exact (whole0_8 _).symm
  · rw [← emb0_8 i]; exact View.emb_mem_set _ _

/-! ## The prefetched table -/

theorem V2_te (outs : Outs (F := F)) (c : Dev nD) : V2 m outs c main_v1_5 = outs 2 main_v1_5 c := by
  simp only [V2, Function.update_self]

/-- The table is the router's sixth result as one row of 40. -/
theorem table_eq : (table m 0 : IVec S40 32) = shapeCast S40 (outTE (argX m 0) (argWr m 0) (argBr m 0)) shapeCasts_S40x1_S40 := by
  have h : V5 m (outs0 m) 0 main_v18 = shapeCast S40 (V4 m (outs0 m) 0 main_v1_5) shapeCasts_S40x1_S40 := by
    show StableHlo.after hostOps1_2 (V4 m (outs0 m) 0) (Proc.devRef .tc main_v18) = _
    after_reads_simp
    rfl
  rw [V4_of m (outs0 m) 0 main_v1_5 (by decide), V3_of m (outs0 m) 0 main_v1_5 (by decide), V2_te, left_te] at h
  exact h

/-- A table whose entries name one of the eight experts satisfies the launch's side condition. -/
theorem ok1_of_le (pf : pre1.Contents (Elt F)) (h : ∀ y, ((pf 0 : IVec S40 32) y).toNat ≤ 7) : ok1 pf := by
  refine ⟨fun i => ⟨fun a => ?_, .inr (.inr ⟨by decide, rfl, rfl, rfl⟩)⟩, fun i => ⟨fun a => ?_, .inl rfl⟩,
    fun i => ⟨fun a => ?_, .inr (.inr ⟨by decide, rfl, rfl, rfl⟩)⟩, fun i => ⟨fun a => ?_, .inl rfl⟩⟩
  all_goals
    have hk := h ((Rect.unit (s := S40) ![(Scalar.indexCast (BitVec.ofNat 32 (i 0).val)).toNat] S1.size (k1_off1_inb i)).emb
      (Shape.Idx.first (numel1_S1.symm ▸ Nat.one_pos)))
    match a with
    | ⟨0, _⟩ => exact (Nat.mul_one _).le.trans (Nat.succ_le_succ hk)
    | ⟨1, _⟩ => exact Nat.le_of_eq rfl
    | ⟨2, _⟩ => exact Nat.le_of_eq rfl

end Cert.KernelIdeal.Moe
-- ==== Proof.NatReal.lean ====
/-
  Natural numbers as extended reals: counts the router forms by float arithmetic are exact, so sums, products, floors and
  conversions to words of such values are those of the naturals.
-/
module

public import Idealize.ShloMosaic.PureOps.Ideal
public import Idealize.ShloMosaic.PureOps.Ideal.Laws

@[expose] public section

noncomputable section

namespace Cert.Moe

open Idealize.ShloMosaic

/-- A natural number as an extended real. -/
def N (n : ℕ) : EReal := ((n : ℝ) : EReal)

theorem N_zero : N 0 = 0 := by simp [N]
theorem N_one : N 1 = 1 := by simp [N]
theorem N_add (a b : ℕ) : N a + N b = N (a + b) := by
  unfold N; rw [← EReal.coe_add]; push_cast; rfl
theorem N_mul (a b : ℕ) : N a * N b = N (a * b) := by
  unfold N; rw [← EReal.coe_mul]; push_cast; rfl
theorem N_sub {a b : ℕ} (h : b ≤ a) : N a - N b = N (a - b) := by
  unfold N; rw [← EReal.coe_sub]; push_cast [h]; rfl
theorem N_sum {ι : Type} (s : Finset ι) (f : ι → ℕ) : ∑ i ∈ s, N (f i) = N (∑ i ∈ s, f i) := by
  classical
  induction s using Finset.induction_on with
  | empty => simp [N_zero]
  | insert a s ha ih => rw [Finset.sum_insert ha, Finset.sum_insert ha, ih, N_add]
theorem N_le {a b : ℕ} : N a ≤ N b ↔ a ≤ b := by
  unfold N; rw [EReal.coe_le_coe_iff, Nat.cast_le]
theorem N_min (a b : ℕ) : min (N a) (N b) = N (min a b) := by
  rcases le_total a b with h | h
  · rw [min_eq_left h, min_eq_left (N_le.2 h)]
  · rw [min_eq_right h, min_eq_right (N_le.2 h)]

/-- A natural below 2³¹ converts to its own word. -/
theorem fptosi_N {n : ℕ} (h : n < 2 ^ 31) : Ideal.fptosi 32 (N n) = BitVec.ofNat 32 n := by
  have e : Ideal.toIntClamped (-(2 ^ (32 - 1) : Nat)) ((2 ^ (32 - 1) : Nat) - 1) (N n) = (n : ℤ) := by
    show max _ (min _ (if (0 : ℝ) ≤ (n : ℝ) then ⌊(n : ℝ)⌋ else ⌈(n : ℝ)⌉)) = (n : ℤ)
    rw [if_pos (Nat.cast_nonneg n), Int.floor_natCast]
    have h' : (n : ℤ) < 2 ^ 31 := by exact_mod_cast h
    norm_num
    omega
  unfold Ideal.fptosi
  rw [e]
  rfl

/-- The floor of a 256th of a natural is the quotient. -/
theorem floor_N_div (n : ℕ) : Ideal.liftRound Int.floor (N n * (((1 : ℝ) / 256 : ℝ) : EReal)) = N (n / 256) := by
  unfold N
  rw [← EReal.coe_mul]
  show ((⌊(n : ℝ) * (1 / 256)⌋ : ℝ) : EReal) = _
  have : ⌊(n : ℝ) * (1 / 256)⌋ = ((n / 256 : ℕ) : ℤ) := by
    rw [mul_one_div, Int.floor_eq_iff]
    have h1 : 256 * (n / 256) ≤ n := Nat.mul_div_le n 256
    have h2 : n < 256 * (n / 256) + 256 := by omega
    have h1' : (256 : ℝ) * ((n / 256 : ℕ) : ℝ) ≤ n := by exact_mod_cast h1
    have h2' : (n : ℝ) < 256 * ((n / 256 : ℕ) : ℝ) + 256 := by exact_mod_cast h2
    constructor
    · rw [Int.cast_natCast]; linarith
    · rw [Int.cast_natCast]; linarith
  rw [this]
  rfl

/-! ## The words the kernel writes its constants with -/

theorem bits_one : Ideal.ofBits .bf16 0x3F80#16 = N 1 := by
  unfold N; simp [Ideal.ofBits, Ideal.ieee, ← EReal.coe_mul]; norm_num
theorem bits_255 : Ideal.ofBits .f32 0x437F0000#32 = N 255 := by
  unfold N; simp [Ideal.ofBits, Ideal.ieee, ← EReal.coe_mul]; norm_num
theorem bits_256 : Ideal.ofBits .f32 0x43800000#32 = N 256 := by
  unfold N; simp [Ideal.ofBits, Ideal.ieee, ← EReal.coe_mul]; norm_num
theorem bits_256th : Ideal.ofBits .f32 0x3B800000#32 = (((1 : ℝ) / 256 : ℝ) : EReal) := by
  simp [Ideal.ofBits, Ideal.ieee, ← EReal.coe_mul]; norm_num
theorem bits_seven : Ideal.ofBits .f32 0x40E00000#32 = N 7 := by
  unfold N; simp [Ideal.ofBits, Ideal.ieee]; norm_cast; norm_num

/-- An indicator word widened and converted is its value. -/
theorem sitofp_bit (b : BitVec 1) : (((b.setWidth 32).toInt : ℝ) : EReal) = N b.toNat := by
  unfold N
  have : (b.setWidth 32).toInt = (b.toNat : ℤ) := by
    have h := b.isLt
    rw [BitVec.toInt_eq_toNat_of_lt (by rw [BitVec.toNat_setWidth]; omega), BitVec.toNat_setWidth, Nat.mod_eq_of_lt (by omega)]
  rw [this]; push_cast; rfl

/-- The same through the operation's name. -/
theorem sitofp_bit' (b : BitVec 1) : FloatOps.sitofp (F := Ideal) .f32 (b.setWidth 32) = N b.toNat := sitofp_bit b

/-- The word of a small natural converts to it. -/
theorem sitofp_ofNat {n : ℕ} (h : n < 2 ^ 31) : FloatOps.sitofp (F := Ideal) .f32 (BitVec.ofNat 32 n) = N n := by
  have : (BitVec.ofNat 32 n).toInt = (n : ℤ) := by
    rw [BitVec.toInt_eq_toNat_of_lt (by rw [BitVec.toNat_ofNat, Nat.mod_eq_of_lt (by omega)]; omega), BitVec.toNat_ofNat, Nat.mod_eq_of_lt (by omega)]
  show (((BitVec.ofNat 32 n).toInt : ℝ) : EReal) = N n
  rw [this]; unfold N; push_cast; rfl

end Cert.Moe
-- ==== Proof.TableIdeal.lean ====
/-
  The prefetched table over the extended reals: each entry is a sum of eight indicators, cut off at seven.
-/
module

public import proofs.«01_k».proof.Proof.Left
public import proofs.«01_k».proof.Proof.NatReal
public import Idealize.ShloMosaic.Lib.Pointwise

@[expose] public section

noncomputable section

namespace Cert.KernelIdeal.Moe

open Cert.KernelIdeal Cert.KernelIdeal.Gen Cert.Moe
open Idealize.ShloMosaic Idealize.ShloMosaic.TcCoe

/-- An entry of the table: the number of experts whose tiles end at or before the slot, at most seven. -/
theorem te_apply (t : FVec Ideal S1x8 .f32) (rows cols : IVec S8x8 32) (y : Fin 40) :
    k0_pay5 (F := Ideal) t rows cols (ix2 y 0)
      = BitVec.ofNat 32 (min (∑ e : Fin 8, (Ideal.cmp .oge (N y.val) (k0_pay1 (F := Ideal) t rows cols (ix2 0 e))).toNat) 7) := by
  rw [← fptosi_N (lt_of_le_of_lt (min_le_right _ _) (by norm_num)), ← N_min, ← N_sum, ← bits_seven]
  unfold k0_pay5
  pointwise
  simp only [sitofp_bit', sitofp_ofNat (show y.val < 2 ^ 31 by omega)]
  rfl

/-- Every word of the table is at most seven. -/
theorem te_le (t : FVec Ideal S1x8 .f32) (rows cols : IVec S8x8 32) (y : S40x1.Idx) :
    ((k0_pay5 (F := Ideal) t rows cols : IVec S40x1 32) y).toNat ≤ 7 := by
  obtain ⟨a, b, rfl⟩ : ∃ (a : Fin 40) (b : Fin 1), y = ix2 a b := ⟨y 0, y 1, (ix2_eta y).symm⟩
  obtain rfl : b = 0 := Subsingleton.elim _ _
  rw [te_apply, BitVec.toNat_ofNat]
  exact (Nat.mod_le _ _).trans (min_le_right _ _)

/-- The expert launch's side condition holds of the table every run prefetches. -/
theorem table_ok (m : (ℓ : Loc nD τ sig) → Buf (Elt Ideal) ℓ) : ok1 (table m) :=
  ok1_of_le _ fun y => by rw [table_eq]; exact te_le _ _ _ _

end Cert.KernelIdeal.Moe
-- ==== Proof.Dispatch.lean ====
/-
  Dispatch by counting, in natural numbers: jobs 0 … 8191 each name one of eight experts; a job's slot is its expert's
  first row plus its rank among the jobs of that expert, each expert's rows rounded up to whole tiles of 256.  Slots are
  distinct, lie inside the 10240 rows, and the tile a slot lies in belongs to the job's expert.
-/
module

public import Mathlib.Algebra.BigOperators.Group.Finset.Basic
public import Mathlib.Algebra.BigOperators.Fin
public import Mathlib.Algebra.BigOperators.Intervals
public import Mathlib.Algebra.Order.BigOperators.Group.Finset
public import Mathlib.Tactic.Ring
public import Mathlib.Data.Fintype.BigOperators

@[expose] public section

namespace Cert.Moe

variable (ch : ℕ → Fin 8)

/-- Whether job `j` names expert `e`, as a number. -/
def hit (j : ℕ) (e : Fin 8) : ℕ := if ch j = e then 1 else 0

/-- The number of jobs below `n` that name `e`. -/
def before (n : ℕ) (e : Fin 8) : ℕ := ∑ j ∈ Finset.range n, hit ch j e

/-- The number of tiles of expert `e`. -/
def tilesOf (e : Fin 8) : ℕ := (before ch 8192 e + 255) / 256

/-- The tiles of the experts up to and including `e`. -/
def tilesTo (e : Fin 8) : ℕ := ∑ i : Fin 8, tilesOf ch i * (if i ≤ e then 1 else 0)

/-- The first row of expert `e`. -/
def firstRow (e : Fin 8) : ℕ := (tilesTo ch e - tilesOf ch e) * 256

/-- The slot of job `j`. -/
def slot (j : ℕ) : ℕ := firstRow ch (ch j) + before ch j (ch j)

/-- The expert tile `t` belongs to. -/
def ownerOf (t : ℕ) : ℕ := min (∑ e : Fin 8, if tilesTo ch e ≤ t then 1 else 0) 7

theorem before_succ (n : ℕ) (e : Fin 8) : before ch (n + 1) e = before ch n e + hit ch n e := Finset.sum_range_succ _ _

theorem before_add (n k : ℕ) (e : Fin 8) : before ch (n + k) e = before ch n e + ∑ j ∈ Finset.range k, hit ch (n + j) e :=
  Finset.sum_range_add _ _ _

theorem before_mono {a b : ℕ} (h : a ≤ b) (e : Fin 8) : before ch a e ≤ before ch b e :=
  Finset.sum_le_sum_of_subset (Finset.range_mono h)

/-- A job's rank is below the count of its expert at any later point. -/
theorem rank_lt {j n : ℕ} (h : j < n) : before ch j (ch j) < before ch n (ch j) := by
  have h1 : before ch (j + 1) (ch j) = before ch j (ch j) + 1 := by rw [before_succ, hit, if_pos rfl]
  have := before_mono ch (show j + 1 ≤ n from h) (ch j)
  omega

theorem sum_before (n : ℕ) : ∑ e, before ch n e = n := by
  unfold before
  rw [Finset.sum_comm]
  simp [hit]

theorem before_le (n : ℕ) (e : Fin 8) : before ch n e ≤ n := by
  conv_rhs => rw [← sum_before ch n]
  exact Finset.single_le_sum (f := fun e => before ch n e) (fun _ _ => Nat.zero_le _) (Finset.mem_univ e)

theorem count_le_tiles (e : Fin 8) : before ch 8192 e ≤ tilesOf ch e * 256 := by
  unfold tilesOf; omega

/-- There are at most 39 tiles in use. -/
theorem tiles_le : ∑ e, tilesOf ch e ≤ 39 := by
  have h : ∀ e, 256 * tilesOf ch e ≤ before ch 8192 e + 255 := fun e => by unfold tilesOf; omega
  have := Finset.sum_le_sum fun e (_ : e ∈ Finset.univ) => h e
  rw [← Finset.mul_sum, Finset.sum_add_distrib, sum_before] at this
  simp at this
  omega

theorem tilesTo_eq (e : Fin 8) : tilesTo ch e = ∑ i ∈ Finset.Iic e, tilesOf ch i := by
  unfold tilesTo
  simp only [mul_ite, mul_one, mul_zero]
  rw [← Finset.sum_filter]
  congr 1
  ext i; simp

theorem tilesTo_le (e : Fin 8) : tilesTo ch e ≤ 39 := by
  rw [tilesTo_eq]
  exact (Finset.sum_le_sum_of_subset (Finset.subset_univ _)).trans (tiles_le ch)

theorem tilesOf_le_tilesTo (e : Fin 8) : tilesOf ch e ≤ tilesTo ch e := by
  rw [tilesTo_eq]
  exact Finset.single_le_sum (f := fun i => tilesOf ch i) (fun _ _ => Nat.zero_le _) (by simp)

theorem tilesTo_mono {a b : Fin 8} (h : a ≤ b) : tilesTo ch a ≤ tilesTo ch b := by
  rw [tilesTo_eq, tilesTo_eq]
  exact Finset.sum_le_sum_of_subset (Finset.Iic_subset_Iic.2 h)

/-- An earlier expert's tiles end before a later expert's begin. -/
theorem tilesTo_sep {a b : Fin 8} (h : a < b) : tilesTo ch a + tilesOf ch b ≤ tilesTo ch b := by
  rw [tilesTo_eq, tilesTo_eq]
  have hb : b ∉ Finset.Iic a := by simp [h]
  rw [add_comm, ← Finset.sum_insert hb]
  refine Finset.sum_le_sum_of_subset fun i hi => ?_
  rcases Finset.mem_insert.1 hi with rfl | hi
  · simp
  · exact Finset.mem_Iic.2 ((Finset.mem_Iic.1 hi).trans h.le)

theorem slot_ge (j : ℕ) : (tilesTo ch (ch j) - tilesOf ch (ch j)) * 256 ≤ slot ch j := Nat.le_add_right _ _

theorem slot_lt {j : ℕ} (h : j < 8192) : slot ch j < tilesTo ch (ch j) * 256 := by
  have h1 := rank_lt ch h
  have h2 := count_le_tiles ch (ch j)
  have h3 := tilesOf_le_tilesTo ch (ch j)
  unfold slot firstRow
  omega

/-- Every slot lies inside the sorted rows. -/
theorem slot_lt_rows {j : ℕ} (h : j < 8192) : slot ch j < 9984 := by
  have := slot_lt ch h
  have := tilesTo_le ch (ch j)
  omega

theorem slot_lt_of_lt {i j : ℕ} (hi : i < 8192) (h : ch i < ch j) : slot ch i < slot ch j := by
  have h1 := slot_lt ch hi
  have h2 := slot_ge ch j
  have h3 := tilesTo_sep ch h
  omega

/-- No two jobs share a slot. -/
theorem slot_inj {i j : ℕ} (hi : i < 8192) (hj : j < 8192) (h : slot ch i = slot ch j) : i = j := by
  rcases lt_trichotomy (ch i) (ch j) with hc | hc | hc
  · exact absurd h (slot_lt_of_lt ch hi hc).ne
  · have e : before ch i (ch j) = before ch j (ch j) := by
      unfold slot at h; rw [hc] at h; omega
    rcases lt_trichotomy i j with hl | hl | hl
    · have := rank_lt ch hl; rw [hc] at this; omega
    · exact hl
    · have := rank_lt ch hl; omega
  · exact absurd h (slot_lt_of_lt ch hj hc).ne'

/-- The tile a slot lies in belongs to the job's expert. -/
theorem owner_slot {j : ℕ} (h : j < 8192) : ownerOf ch (slot ch j / 256) = (ch j).val := by
  have h1 := slot_lt ch h
  have h2 := slot_ge ch j
  have key : ∀ e : Fin 8, tilesTo ch e ≤ slot ch j / 256 ↔ e < ch j := fun e => by
    constructor
    · intro he
      by_contra hn
      have := tilesTo_mono ch (not_lt.1 hn)
      omega
    · intro he
      have := tilesTo_sep ch he
      omega
  unfold ownerOf
  simp only [key]
  generalize ch j = c
  revert c
  decide

end Cert.Moe
-- ==== Proof.Counts.lean ====
/-
  The router's counts: the running count of each expert after any number of blocks of 512 jobs, and each job's rank
  inside its block added to it, are the counts of jobs before a given one.
-/
module

public import proofs.«01_k».proof.Proof.TableIdeal
public import proofs.«01_k».proof.Proof.NatReal
public import proofs.«01_k».proof.Proof.Dispatch
public import Idealize.ShloMosaic.Lib.Pointwise
public import Idealize.ShloMosaic.Lib.Pipeline.Value
public import Idealize.ShloMosaic.Lib.WordCmp

@[expose] public section

noncomputable section

namespace Cert.KernelIdeal.Moe

open Cert.KernelIdeal Cert.KernelIdeal.Gen Cert.Moe
open Idealize.ShloMosaic Idealize.ShloMosaic.TcCoe

variable (ch : ℕ → Fin 8)

/-- The row of counts before job `n`. -/
def IsRun (v : FVec Ideal S1x8 .f32) (n : ℕ) : Prop := ∀ e : Fin 8, v (ix2 0 e) = N (before ch n e)
/-- The indicator rows of the 512 jobs from `n`. -/
def IsPiece (s : FVec Ideal S512x8 .bf16) (n : ℕ) : Prop := ∀ (r : Fin 512) (e : Fin 8), s (ix2 r e) = N (hit ch (n + r.val) e)
/-- The indicator rows of the 4096 jobs from `n`. -/
def IsPick (s : FVec Ideal S4096x8 .bf16) (n : ℕ) : Prop := ∀ (r : Fin 4096) (e : Fin 8), s (ix2 r e) = N (hit ch (n + r.val) e)
/-- The counts before each of the 512 jobs from `n`. -/
def IsRank (v : FVec Ideal S512x8 .f32) (n : ℕ) : Prop := ∀ (r : Fin 512) (e : Fin 8), v (ix2 r e) = N (before ch (n + r.val) e)

variable {ch}

theorem isRun_zero : IsRun ch (k0_pay20 (F := Ideal)) 0 := fun e => by
  unfold k0_pay20
  pointwise
  simp [before, N_zero, Ideal.ofBits, Ideal.ieee]

theorem isPiece_slice {p : FVec Ideal S4096x8 .bf16} {n : ℕ} (hp : IsPick ch p n) (o : ℕ) (h : S4096x8.Slices ![o, 0] S512x8) :
    IsPiece ch (extractStridedSlice S512x8 ![o, 0] p h) (n + o) := fun r e => by
  pointwise
  rw [Nat.add_assoc]
  exact hp _ _

/-- One more block: the running counts grow by the column sums of the block. -/
theorem isRun_step {v : FVec Ideal S1x8 .f32} {s : FVec Ideal S512x8 .bf16} {n : ℕ} (hv : IsRun ch v n) (hs : IsPiece ch s n) :
    IsRun ch (addf v (matmul dot_S1x512_S512x8_S1x8_1_0_0_1_n_n none (k0_pay19 (F := Ideal)) s (constant S1x8 .f32 0x00000000#32))) (n + 512) :=
  fun e => by
  unfold k0_pay19
  pointwise
  simp only [hv e, hs _ _, N_sum, N_add]
  rw [before_add, Finset.sum_range]

/-- The strictly lower triangular matrix of ones. -/
theorem tri_apply (r k : Fin 512) : k0_pay18 (F := Ideal) (ix2 r k) = N (if k.val < r.val then 1 else 0) := by
  unfold k0_pay18
  pointwise
  rw [sitofp_bit', WordCmp.cmpi_sgt_ofNat (by omega) (by omega)]
  by_cases h : k.val < r.val <;> simp [h]

theorem sum_tri (f : ℕ → ℕ) (r : Fin 512) : ∑ x : Fin 512, (if x.val < r.val then 1 else 0) * f x.val = ∑ j ∈ Finset.range r.val, f j := by
  rw [Fin.sum_univ_eq_sum_range (fun i => (if i < r.val then 1 else 0) * f i) 512]
  simp only [ite_mul, one_mul, zero_mul]
  rw [← Finset.sum_filter]
  congr 1
  ext j
  have := r.isLt
  simp only [Finset.mem_filter, Finset.mem_range]
  omega

/-- A block's ranks: the running counts, and the jobs of the block that come before. -/
theorem isRank_step {v : FVec Ideal S1x8 .f32} {s : FVec Ideal S512x8 .bf16} {n : ℕ} (hv : IsRun ch v n) (hs : IsPiece ch s n) :
    IsRank ch (addf (matmul dot_S512x512_S512x8_S512x8_1_0_0_1_n_n none (k0_pay18 (F := Ideal)) s (constant S512x8 .f32 0x00000000#32))
      (broadcastTo S512x8 v broadcasts_S1x8_S512x8)) n := fun r e => by
  pointwise
  simp only [hv e, hs _ _, tri_apply, N_mul, N_sum, N_add]
  rw [before_add, sum_tri (fun j => hit ch (n + j) e), add_comm]

/-- A block of a concatenation of blocks of ranks. -/
theorem cat_at {n : ℕ} (xs : List ((s : Shape) × (s.Idx → EReal))) (h : Shape.Concatenates (xs.map (·.1)) S4096x8 0) (k : ℕ) (hk : k < xs.length)
    {x : FVec Ideal S512x8 .f32} (hx : xs[k] = ⟨S512x8, x⟩) (hr : IsRank ch x (n + 512 * k))
    (hs : xs.map (·.1) = List.replicate 8 S512x8) (hk8 : k ≤ 8)
    (t : Fin 4096) (e : Fin 8) (ht : t.val / 512 = k) :
    concatenate S4096x8 0 xs h (ix2 t e) = N (before ch (n + t.val) e) := by
  have hlt : t.val % 512 < 512 := Nat.mod_lt _ (by norm_num)
  have hdm : 512 * k + t.val % 512 = t.val := by rw [← ht]; exact Nat.div_add_mod _ _
  have hpre : (((xs.take k).map (·.1)).map fun s => if h : s.rank = S4096x8.rank then s.size ((0 : Fin S4096x8.rank).cast h.symm) else 0).sum = 512 * k := by
    rw [List.map_take, hs, List.take_replicate, List.map_replicate, List.sum_replicate, min_eq_left hk8, smul_eq_mul, mul_comm]
    rfl
  refine (concatenate_apply_piece 0 xs h (ix2 t e) k hk S512x8 x hx rfl (512 * k) hpre (ix2 ⟨t.val % 512, hlt⟩ e) ?_ hdm).trans ?_
  · intro b hb
    match b with
    | ⟨0, _⟩ => exact absurd rfl hb
    | ⟨1, _⟩ => rfl
  · rw [hr]
    show N (before ch (n + 512 * k + t.val % 512) e) = _
    rw [Nat.add_assoc, hdm]

/-- The concatenation of the ranks of eight consecutive blocks. -/
theorem cat_rank {n : ℕ} {x0 x1 x2 x3 x4 x5 x6 x7 : FVec Ideal S512x8 .f32} (h0 : IsRank ch x0 (n + 512 * 0)) (h1 : IsRank ch x1 (n + 512 * 1))
    (h2 : IsRank ch x2 (n + 512 * 2)) (h3 : IsRank ch x3 (n + 512 * 3)) (h4 : IsRank ch x4 (n + 512 * 4)) (h5 : IsRank ch x5 (n + 512 * 5))
    (h6 : IsRank ch x6 (n + 512 * 6)) (h7 : IsRank ch x7 (n + 512 * 7)) (t : Fin 4096) (e : Fin 8) :
    concatenate (α := EReal) S4096x8 0 [⟨S512x8, x0⟩, ⟨S512x8, x1⟩, ⟨S512x8, x2⟩, ⟨S512x8, x3⟩, ⟨S512x8, x4⟩, ⟨S512x8, x5⟩, ⟨S512x8, x6⟩, ⟨S512x8, x7⟩]
      concatenates_S512x8_S512x8_S512x8_S512x8_S512x8_S512x8_S512x8_S512x8_S4096x8_d0 (ix2 t e) = N (before ch (n + t.val) e) := by
  have hq : t.val / 512 < 8 := by omega
  generalize hk : t.val / 512 = k at hq
  match k, hq with
  | 0, _ => exact cat_at _ _ 0 (by simp) rfl h0 rfl (by norm_num) t e hk
  | 1, _ => exact cat_at _ _ 1 (by simp) rfl h1 rfl (by norm_num) t e hk
  | 2, _ => exact cat_at _ _ 2 (by simp) rfl h2 rfl (by norm_num) t e hk
  | 3, _ => exact cat_at _ _ 3 (by simp) rfl h3 rfl (by norm_num) t e hk
  | 4, _ => exact cat_at _ _ 4 (by simp) rfl h4 rfl (by norm_num) t e hk
  | 5, _ => exact cat_at _ _ 5 (by simp) rfl h5 rfl (by norm_num) t e hk
  | 6, _ => exact cat_at _ _ 6 (by simp) rfl h6 rfl (by norm_num) t e hk
  | 7, _ => exact cat_at _ _ 7 (by simp) rfl h7 rfl (by norm_num) t e hk

/-- A weighted sum of a job's indicators is the weight of its expert. -/
theorem sum_hit (f : Fin 8 → ℕ) (j : ℕ) : ∑ e, f e * hit ch j e = f (ch j) := by
  simp [hit]

/-- The inclusion matrix summed against the tiles: the tiles up to each expert. -/
theorem pay1_apply {t : FVec Ideal S1x8 .f32} (ht : ∀ e : Fin 8, t (ix2 0 e) = N (tilesOf ch e)) (e : Fin 8) :
    k0_pay1 (F := Ideal) t rows8 cols8 (ix2 0 e) = N (tilesTo ch e) := by
  unfold k0_pay1
  pointwise
  have hb : ∀ x : Fin 8, FloatOps.sitofp (F := Ideal) .f32 (BitVec.setWidth 32 (IntOp.cmpi .sle (BitVec.ofNat 32 x.val) (BitVec.ofNat 32 e.val)))
      = N (if x ≤ e then 1 else 0) := fun x => by
    rw [sitofp_bit', WordCmp.cmpi_sle_ofNat (by omega) (by omega)]
    by_cases h : x ≤ e
    · simp [h]
    · have h' : ¬x.val ≤ e.val := h
      simp [h, h']
  simp only [hb, ht, N_mul, N_sum]
  rfl

theorem pay2_apply {t : FVec Ideal S1x8 .f32} (ht : ∀ e : Fin 8, t (ix2 0 e) = N (tilesOf ch e)) (e : Fin 8) :
    k0_pay2 (F := Ideal) t rows8 cols8 (ix2 0 e) = N (firstRow ch e) := by
  unfold k0_pay2
  pointwise
  rw [pay1_apply ht, ht, N_sub (tilesOf_le_tilesTo ch e)]
  refine (congrArg _ bits_256).trans ?_
  rw [N_mul]; rfl

/-- The table's entries: the expert each tile belongs to. -/
theorem te_eq {t : FVec Ideal S1x8 .f32} (ht : ∀ e : Fin 8, t (ix2 0 e) = N (tilesOf ch e)) (y : Fin 40) :
    k0_pay5 (F := Ideal) t rows8 cols8 (ix2 y 0) = BitVec.ofNat 32 (ownerOf ch y.val) := by
  rw [te_apply]
  refine congrArg (fun n => BitVec.ofNat 32 (min n 7)) ?_
  refine Finset.sum_congr rfl fun e _ => ?_
  rw [pay1_apply ht]
  show (BitVec.ofBool (decide (N (tilesTo ch e) ≤ N y.val))).toNat = _
  simp only [N_le]
  by_cases h : tilesTo ch e ≤ y.val <;> simp [h]

end Cert.KernelIdeal.Moe
-- ==== Proof.Slots.lean ====
/-
  The router's integer results: given the two choices of every token, the slot of each of its two jobs, and the expert
  of every tile.
-/
module

public import proofs.«01_k».proof.Proof.Counts

@[expose] public section

noncomputable section

namespace Cert.KernelIdeal.Moe

open Cert.KernelIdeal Cert.KernelIdeal.Gen Cert.Moe
open Idealize.ShloMosaic Idealize.ShloMosaic.TcCoe

variable {ch : ℕ → Fin 8} (x : Vec Ideal S4096x768 .f32) (wr : Vec Ideal S768x8 .f32) (br : Vec Ideal S1x8 .f32)

/-- The two indicator matrices are those of the jobs: first choices are jobs 0 … 4095, second choices 4096 … 8191. -/
structure Picks (ch : ℕ → Fin 8) : Prop where
  one : IsPick ch (pick1 x wr br) 0
  two : IsPick ch (pick2 x wr br) 4096

variable {x wr br} (P : Picks x wr br ch)

include P

theorem piece1 (o : ℕ) (h : S4096x8.Slices ![o, 0] S512x8) : IsPiece ch (extractStridedSlice S512x8 ![o, 0] (pick1 x wr br) h) o := by
  have := isPiece_slice P.one o h
  rwa [Nat.zero_add] at this
theorem piece2 (o n : ℕ) (h : S4096x8.Slices ![o, 0] S512x8) (hn : 4096 + o = n) : IsPiece ch (extractStridedSlice S512x8 ![o, 0] (pick2 x wr br) h) n :=
  hn ▸ isPiece_slice P.two o h

theorem run1 : IsRun ch (k0_pay23 (F := Ideal) (k0_pay8 x wr br)) 512 := isRun_step isRun_zero (piece1 P 0 slices_S4096x8_o0_0_S512x8)
theorem run2 : IsRun ch (k0_pay26 (F := Ideal) (k0_pay8 x wr br)) 1024 := isRun_step (run1 P) (piece1 P 512 slices_S4096x8_o512_0_S512x8)
theorem run3 : IsRun ch (count4 x wr br) 1536 := isRun_step (run2 P) (piece1 P 1024 slices_S4096x8_o1024_0_S512x8)
theorem run4 : IsRun ch (k0_pay32 (k0_pay19 (F := Ideal)) (count4 x wr br) (piece3 x wr br)) 2048 := isRun_step (run3 P) (piece1 P 1536 slices_S4096x8_o1536_0_S512x8)
theorem run5 : IsRun ch (k0_pay34 (pick1 x wr br) k0_pay19 (count4 x wr br) (piece3 x wr br)) 2560 := isRun_step (run4 P) (piece1 P 2048 slices_S4096x8_o2048_0_S512x8)
theorem run6 : IsRun ch (k0_pay36 (pick1 x wr br) k0_pay19 (count4 x wr br) (piece3 x wr br)) 3072 := isRun_step (run5 P) (piece1 P 2560 slices_S4096x8_o2560_0_S512x8)
theorem run7 : IsRun ch (k0_pay38 (pick1 x wr br) k0_pay19 (count4 x wr br) (piece3 x wr br)) 3584 := isRun_step (run6 P) (piece1 P 3072 slices_S4096x8_o3072_0_S512x8)
theorem run8 : IsRun ch (k0_pay40 (pick1 x wr br) k0_pay19 (count4 x wr br) (piece3 x wr br)) 4096 := isRun_step (run7 P) (piece1 P 3584 slices_S4096x8_o3584_0_S512x8)
theorem run9 : IsRun ch (k0_pay44 (pick1 x wr br) (pick2 x wr br) k0_pay19 (count4 x wr br) (piece3 x wr br)) 4608 := isRun_step (run8 P) (piece2 P 0 _ slices_S4096x8_o0_0_S512x8 rfl)
theorem run10 : IsRun ch (k0_pay47 (pick1 x wr br) (pick2 x wr br) k0_pay19 (count4 x wr br) (piece3 x wr br)) 5120 := isRun_step (run9 P) (piece2 P 512 _ slices_S4096x8_o512_0_S512x8 rfl)
theorem run11 : IsRun ch (count11 x wr br) 5632 := isRun_step (run10 P) (piece2 P 1024 _ slices_S4096x8_o1024_0_S512x8 rfl)
theorem run12 : IsRun ch (k0_pay52 (pick2 x wr br) k0_pay19 (count11 x wr br)) 6144 := isRun_step (run11 P) (piece2 P 1536 _ slices_S4096x8_o1536_0_S512x8 rfl)
theorem run13 : IsRun ch (k0_pay54 (pick2 x wr br) k0_pay19 (count11 x wr br)) 6656 := isRun_step (run12 P) (piece2 P 2048 _ slices_S4096x8_o2048_0_S512x8 rfl)
theorem run14 : IsRun ch (k0_pay56 (pick2 x wr br) k0_pay19 (count11 x wr br)) 7168 := isRun_step (run13 P) (piece2 P 2560 _ slices_S4096x8_o2560_0_S512x8 rfl)
theorem run15 : IsRun ch (k0_pay58 (pick2 x wr br) k0_pay19 (count11 x wr br)) 7680 := isRun_step (run14 P) (piece2 P 3072 _ slices_S4096x8_o3072_0_S512x8 rfl)
theorem run16 : IsRun ch (addf (k0_pay58 (pick2 x wr br) k0_pay19 (count11 x wr br)) (matmul dot_S1x512_S512x8_S1x8_1_0_0_1_n_n none (k0_pay19 (F := Ideal))
    (k0_pay59 (pick2 x wr br)) (constant S1x8 .f32 0x00000000#32))) 8192 := isRun_step (run15 P) (piece2 P 3584 _ slices_S4096x8_o3584_0_S512x8 rfl)

theorem rank1_apply (t : Fin 4096) (e : Fin 8) : rank1 x wr br (ix2 t e) = N (before ch t.val e) :=
  (cat_rank (n := 0) (isRank_step isRun_zero (piece1 P 0 slices_S4096x8_o0_0_S512x8)) (isRank_step (run1 P) (piece1 P 512 slices_S4096x8_o512_0_S512x8)) (isRank_step (run2 P) (piece1 P 1024 slices_S4096x8_o1024_0_S512x8))
    (isRank_step (run3 P) (piece1 P 1536 slices_S4096x8_o1536_0_S512x8)) (isRank_step (run4 P) (piece1 P 2048 slices_S4096x8_o2048_0_S512x8)) (isRank_step (run5 P) (piece1 P 2560 slices_S4096x8_o2560_0_S512x8))
    (isRank_step (run6 P) (piece1 P 3072 slices_S4096x8_o3072_0_S512x8)) (isRank_step (run7 P) (piece1 P 3584 slices_S4096x8_o3584_0_S512x8)) t e).trans (by rw [Nat.zero_add])

omit P in
/-- A job's own rank: the ranks against its indicator row. -/
theorem own_apply {n : ℕ} {g : FVec Ideal S4096x8 .f32} {p : FVec Ideal S4096x8 .bf16} (hp : IsPick ch p n) (t : Fin 4096)
    (hg : ∀ e : Fin 8, g (ix2 t e) = N (before ch (n + t.val) e)) :
    (shapeCast S4096x1 (multiReduction .add [1] S4096 (mulf g (extf .f32 p bitsLt_bf16_f32)) 0x00000000#32 reduces_S4096x8_S4096 (.inl rfl) rfl)
      shapeCasts_S4096_S4096x1 : FVec Ideal S4096x1 .f32) (ix2 t 0) = N (before ch (n + t.val) (ch (n + t.val))) := by
  pointwise
  simp only [hg, hp _ _, N_mul, N_sum]
  rw [sum_hit]

/-- The rank of a token at its first choice. -/
theorem ownRank1_apply (t : Fin 4096) : ownRank1 x wr br (ix2 t 0) = N (before ch (0 + t.val) (ch (0 + t.val))) :=
  own_apply P.one t (fun e => (rank1_apply P t e).trans (by rw [Nat.zero_add]))

/-- The rank of a token at its second choice. -/
theorem ownRank2_apply (t : Fin 4096) : ownRank2 x wr br (ix2 t 0) = N (before ch (4096 + t.val) (ch (4096 + t.val))) :=
  own_apply P.two t (cat_rank (n := 4096) (isRank_step (run8 P) (piece2 P 0 _ slices_S4096x8_o0_0_S512x8 rfl)) (isRank_step (run9 P) (piece2 P 512 _ slices_S4096x8_o512_0_S512x8 rfl))
    (isRank_step (run10 P) (piece2 P 1024 _ slices_S4096x8_o1024_0_S512x8 rfl))
    (isRank_step (run11 P) (piece2 P 1536 _ slices_S4096x8_o1536_0_S512x8 rfl)) (isRank_step (run12 P) (piece2 P 2048 _ slices_S4096x8_o2048_0_S512x8 rfl)) (isRank_step (run13 P) (piece2 P 2560 _ slices_S4096x8_o2560_0_S512x8 rfl))
    (isRank_step (run14 P) (piece2 P 3072 _ slices_S4096x8_o3072_0_S512x8 rfl)) (isRank_step (run15 P) (piece2 P 3584 _ slices_S4096x8_o3584_0_S512x8 rfl)) t)

omit P in
/-- Counts rounded up to tiles. -/
theorem round_apply {v : FVec Ideal S1x8 .f32} (hv : IsRun ch v 8192) (e : Fin 8) :
    floor (mulf (addf v (broadcast S1x8 (Scalar.ofBits .f32 0x437F0000#32))) (broadcast S1x8 (Scalar.ofBits .f32 0x3B800000#32))) (ix2 0 e)
      = N (tilesOf ch e) := by
  show Ideal.liftRound Int.floor ((v (ix2 0 e) + Ideal.ofBits .f32 0x437F0000#32) * Ideal.ofBits .f32 0x3B800000#32) = _
  rw [hv, bits_255, bits_256th, N_add, floor_N_div]
  rfl

/-- Every expert's number of tiles. -/
theorem tiles_apply (e : Fin 8) : tiles x wr br (ix2 0 e) = N (tilesOf ch e) := round_apply (run16 P) e

omit P in
/-- A job's slot: its expert's first row and its own rank, converted to a word. -/
theorem slot_apply {n : ℕ} {g : FVec Ideal S4096x1 .f32} {p : FVec Ideal S4096x8 .bf16} {v : FVec Ideal S1x8 .f32} (hp : IsPick ch p n) (t : Fin 4096)
    (hv : ∀ e : Fin 8, v (ix2 0 e) = N (firstRow ch e))
    (hg : g (ix2 t 0) = N (before ch (n + t.val) (ch (n + t.val)))) (hn : n + t.val < 8192) :
    (fptosi 32 (addf (shapeCast S4096x1 (multiReduction .add [1] S4096 (mulf (broadcastTo S4096x8 v broadcasts_S1x8_S4096x8) (extf .f32 p bitsLt_bf16_f32))
      0x00000000#32 reduces_S4096x8_S4096 (.inl rfl) rfl) shapeCasts_S4096_S4096x1) g) : IVec S4096x1 32) (ix2 t 0) = BitVec.ofNat 32 (slot ch (n + t.val)) := by
  have := slot_lt_rows ch hn
  rw [← fptosi_N (lt_trans this (by norm_num))]
  pointwise
  simp only [hg, hv, hp _ _, N_mul, N_sum, sum_hit, N_add]
  rfl

/-- The slot of each token's first job, and of its second. -/
theorem outP1_apply (t : Fin 4096) : outP1 x wr br (ix2 t 0) = BitVec.ofNat 32 (slot ch (0 + t.val)) :=
  slot_apply P.one t (pay2_apply (tiles_apply P)) (ownRank1_apply P t) (by omega)
theorem outP2_apply (t : Fin 4096) : outP2 x wr br (ix2 t 0) = BitVec.ofNat 32 (slot ch (4096 + t.val)) :=
  slot_apply P.two t (pay2_apply (tiles_apply P)) (ownRank2_apply P t) (by omega)

/-- The expert of each tile. -/
theorem outTE_apply (y : Fin 40) : outTE x wr br (ix2 y 0) = BitVec.ofNat 32 (ownerOf ch y.val) := te_eq (tiles_apply P) y

end Cert.KernelIdeal.Moe
-- ==== Proof.Row.lean ====
/-
  One row of router weights, as plain mathematics: the softmax of eight logits, the first and the second choice among
  eight weights, and the two ways of combining the chosen experts' results.
-/
module

public import proofs.«01_k».proof.Proof.NatReal

@[expose] public section

noncomputable section

namespace Cert.Moe

open Idealize.ShloMosaic

/-! ### The largest of eight values and the first place it stands -/

/-- The largest of eight values. -/
def mx (w : Fin 8 → EReal) : EReal := Finset.univ.fold max ⊥ w

theorem le_mx (w : Fin 8 → EReal) (e : Fin 8) : w e ≤ mx w := Finset.le_sup (f := w) (Finset.mem_univ e)

theorem mx_attained (w : Fin 8 → EReal) : ∃ e, w e = mx w := by
  obtain ⟨e, -, h⟩ := Finset.exists_mem_eq_sup Finset.univ ⟨(0 : Fin 8), Finset.mem_univ _⟩ w
  exact ⟨e, h.symm⟩

open Classical in
/-- The first place of the largest value. -/
def c1 (w : Fin 8 → EReal) : Fin 8 :=
  (Finset.univ.filter fun e => w e = mx w).min' (by obtain ⟨e, h⟩ := mx_attained w; exact ⟨e, by simp [h]⟩)

theorem c1_max (w : Fin 8 → EReal) : w (c1 w) = mx w := by
  classical
  have := Finset.min'_mem (Finset.univ.filter fun e => w e = mx w) (by obtain ⟨e, h⟩ := mx_attained w; exact ⟨e, by simp [h]⟩)
  exact (Finset.mem_filter.mp this).2

theorem c1_le (w : Fin 8 → EReal) {e : Fin 8} (h : w e = mx w) : c1 w ≤ e := by
  classical
  exact Finset.min'_le _ _ (by simp [h])

/-- The weights with the first choice struck out. -/
def rest (w : Fin 8 → EReal) : Fin 8 → EReal := fun e => if e = c1 w then ⊥ else w e

/-- The second choice. -/
def c2 (w : Fin 8 → EReal) : Fin 8 := c1 (rest w)

/-- The least of the words standing at the places that satisfy a condition, other places counting as eight, is the
    first such place. -/
theorem fold_minsi (P : Fin 8 → Prop) [DecidablePred P] (m : Fin 8) (hm : P m) (hle : ∀ e, P e → m ≤ e) :
    Finset.univ.fold IntOp.minsi (2147483647#32) (fun e : Fin 8 => if P e then BitVec.ofNat 32 e.val else 8#32)
      = BitVec.ofNat 32 m.val := by
  have rel : ∀ {x y z : BitVec 32}, x.toInt ≤ (IntOp.minsi y z).toInt ↔ x.toInt ≤ y.toInt ∧ x.toInt ≤ z.toInt := by
    intro x y z
    unfold IntOp.minsi
    split
    · next h => rw [BitVec.slt_iff_toInt_lt] at h; omega
    · next h => rw [BitVec.slt_iff_toInt_lt] at h; omega
  have small : ∀ e : Fin 8, (BitVec.ofNat 32 e.val).toInt = e.val := by decide
  have key := fun c : BitVec 32 => Finset.fold_op_rel_iff_and (op := IntOp.minsi) (r := fun x y : BitVec 32 => x.toInt ≤ y.toInt)
    (f := fun e : Fin 8 => if P e then BitVec.ofNat 32 e.val else 8#32) (b := 2147483647#32) (s := Finset.univ) rel (c := c)
  apply BitVec.eq_of_toInt_eq
  apply le_antisymm
  · have := ((key _).mp (le_refl _)).2 m (Finset.mem_univ _)
    rwa [if_pos hm] at this
  · apply (key _).mpr
    refine ⟨by rw [small]; have := m.isLt; have h : (2147483647#32).toInt = 2147483647 := by decide
               omega, fun e _ => ?_⟩
    rw [small]
    split
    · next h => rw [small]; exact_mod_cast hle e h
    · have := m.isLt; have h : (8#32).toInt = 8 := by decide
      omega

/-! ### The softmax of a row -/

/-- The softmax of eight logits, with the largest subtracted first. -/
def soft (l : Fin 8 → EReal) (e : Fin 8) : EReal :=
  Ideal.div (Ideal.exp (l e - mx l)) (∑ x, Ideal.exp (l x - mx l))

/-- Eight weights that are reals and not negative. -/
def Regular (w : Fin 8 → EReal) : Prop := ∀ e, ∃ r : ℝ, 0 ≤ r ∧ w e = r

theorem exp_real {x : EReal} (h : x ≤ 0) : ∃ r : ℝ, 0 ≤ r ∧ Ideal.exp x = r := by
  induction x with
  | bot => exact ⟨0, le_refl _, rfl⟩
  | top => simp at h
  | coe r => exact ⟨Real.exp r, (Real.exp_pos r).le, rfl⟩

theorem exp_sub_real {a b : EReal} (h : a ≤ b) (hb : ∃ r : ℝ, b = r) : ∃ r : ℝ, 0 ≤ r ∧ Ideal.exp (a - b) = r := by
  obtain ⟨r, rfl⟩ := hb
  exact exp_real (EReal.sub_nonpos.mpr h)

theorem coe_sum (s : Finset (Fin 8)) (f : Fin 8 → ℝ) : ((∑ x ∈ s, f x : ℝ) : EReal) = ∑ x ∈ s, (f x : EReal) := by
  induction s using Finset.induction_on with
  | empty => simp
  | insert a s ha ih => rw [Finset.sum_insert ha, Finset.sum_insert ha, EReal.coe_add, ih]

/-- Either the largest logit is a real number and the softmax is regular, or every weight is the bottom element. -/
theorem soft_cases (l : Fin 8 → EReal) : Regular (soft l) ∨ ∀ e, soft l e = ⊥ := by
  by_cases hM : ∃ r : ℝ, mx l = r
  · left
    choose f hf0 hf using fun e => exp_sub_real (le_mx l e) hM
    have hsum : (∑ x, Ideal.exp (l x - mx l)) = ((∑ x, f x : ℝ) : EReal) := by
      rw [coe_sum]; exact Finset.sum_congr rfl fun x _ => hf x
    have hpos : 0 < ∑ x, f x := by
      obtain ⟨r, hr⟩ := hM
      obtain ⟨e, he⟩ := mx_attained l
      have h1 : f e = 1 := by
        have := hf e
        rw [he, hr, ← EReal.coe_sub, sub_self] at this
        have h2 : Ideal.exp ((0 : ℝ) : EReal) = ((1 : ℝ) : EReal) := by show ((Real.exp 0 : ℝ) : EReal) = _; rw [Real.exp_zero]
        rw [h2] at this
        exact_mod_cast this.symm
      calc (0 : ℝ) < 1 := one_pos
        _ = f e := h1.symm
        _ ≤ _ := Finset.single_le_sum (fun x _ => hf0 x) (Finset.mem_univ e)
    intro e
    refine ⟨f e * (∑ x, f x)⁻¹, mul_nonneg (hf0 e) (inv_nonneg.mpr hpos.le), ?_⟩
    unfold soft Ideal.div
    rw [hsum, hf e, if_neg (by exact_mod_cast hpos.ne'), ← EReal.coe_inv, ← EReal.coe_mul]
  · right
    have hz : ∀ e, Ideal.exp (l e - mx l) = 0 := by
      intro e
      have hb : l e - mx l = ⊥ := by
        generalize hm : mx l = M at hM
        induction M with
        | bot =>
          have h := le_mx l e
          rw [hm] at h
          rw [le_bot_iff.mp h]; rfl
        | top => exact EReal.sub_top _
        | coe r => exact absurd ⟨r, rfl⟩ hM
      rw [hb]; rfl
    intro e
    unfold soft
    simp [hz, Ideal.div]

/-! ### The two choices -/

/-- `a` and `b` are the two largest of eight weights, in order, an earlier place going before a later one of the
    same weight. -/
structure Top (w : Fin 8 → EReal) (a b : Fin 8) : Prop where
  ne : a ≠ b
  first : ∀ k, k ≠ a → w k < w a ∨ (w k = w a ∧ a < k)
  second : ∀ k, k ≠ a → k ≠ b → w k < w b ∨ (w k = w b ∧ b < k)

theorem Top.unique {w : Fin 8 → EReal} {a b a' b' : Fin 8} (h : Top w a b) (h' : Top w a' b') : a = a' ∧ b = b' := by
  have ha : a = a' := by
    by_contra hn
    rcases h.first a' (Ne.symm hn) with h1 | ⟨h1, h2⟩ <;> rcases h'.first a hn with h3 | ⟨h3, h4⟩
    · exact lt_asymm h1 h3
    · exact h1.ne h3.symm
    · exact h3.ne h1.symm
    · exact lt_asymm h2 h4
  subst ha
  refine ⟨rfl, ?_⟩
  by_contra hn
  rcases h.second b' (Ne.symm h'.ne) (Ne.symm hn) with h1 | ⟨h1, h2⟩ <;> rcases h'.second b (Ne.symm h.ne) hn with h3 | ⟨h3, h4⟩
  · exact lt_asymm h1 h3
  · exact h1.ne h3.symm
  · exact h3.ne h1.symm
  · exact lt_asymm h2 h4

theorem c2_ne {w : Fin 8 → EReal} (h : Regular w) : c2 w ≠ c1 w := by
  intro hc
  have h1 := c1_max (rest w)
  change rest w (c2 w) = _ at h1
  rw [hc] at h1
  have hb : mx (rest w) = ⊥ := by rw [← h1]; simp [rest]
  obtain ⟨k, hk⟩ : ∃ k : Fin 8, k ≠ c1 w := exists_ne _
  have h2 := le_mx (rest w) k
  obtain ⟨r, -, hr⟩ := h k
  rw [hb, rest, if_neg hk, hr] at h2
  simp at h2

theorem rest_c2 {w : Fin 8 → EReal} (h : Regular w) : mx (rest w) = w (c2 w) := by
  rw [← c1_max (rest w)]
  show rest w (c2 w) = _
  rw [rest, if_neg (c2_ne h)]

/-- In a regular row the two choices are the two largest weights. -/
theorem top_choices {w : Fin 8 → EReal} (h : Regular w) : Top w (c1 w) (c2 w) where
  ne := (c2_ne h).symm
  first k hk := by
    rcases (le_mx w k).lt_or_eq with h1 | h1
    · left; rwa [c1_max w]
    · right; rw [c1_max w]; exact ⟨h1, lt_of_le_of_ne (c1_le w h1) (Ne.symm hk)⟩
  second k hk hk' := by
    have hr : rest w k = w k := if_neg hk
    rcases (le_mx (rest w) k).lt_or_eq with h1 | h1
    · left; rwa [rest_c2 h, hr] at h1
    · right; exact ⟨by rw [← rest_c2 h, ← h1, hr], lt_of_le_of_ne (c1_le (rest w) h1) (Ne.symm hk')⟩

/-! ### Combining two experts -/

/-- The chosen two experts' results, each weighted by its own weight over the sum of both (plus a small number). -/
def pairSum (ε : EReal) (w y : Fin 8 → EReal) : EReal :=
  Ideal.div (mx w) (mx w + mx (rest w) + ε) * y (c1 w) + Ideal.div (mx (rest w)) (mx w + mx (rest w) + ε) * y (c2 w)

/-- All experts' results, weighted by the masked weights over the sum of the masked weights (plus a small number). -/
def maskSum (ε : EReal) (mask w y : Fin 8 → EReal) : EReal :=
  ∑ e, Ideal.div (w e * mask e) ((∑ k, w k * mask k) + ε) * y e

theorem sum_two {f : Fin 8 → EReal} {a b : Fin 8} (hab : a ≠ b) (h : ∀ e, e ≠ a → e ≠ b → f e = 0) : ∑ e, f e = f a + f b := by
  rw [← Finset.sum_pair hab]
  symm
  apply Finset.sum_subset (Finset.subset_univ _)
  intro e _ he
  simp only [Finset.mem_insert, Finset.mem_singleton, not_or] at he
  exact h e he.1 he.2

theorem bot_add' (x : EReal) : (⊥ : EReal) + x = ⊥ := EReal.bot_add x

/-- The two ways of combining agree, where the mask marks the two largest weights. -/
theorem pairSum_eq_maskSum {ε : EReal} (hε : ∃ r : ℝ, 0 < r ∧ ε = r) {w mask : Fin 8 → EReal} (hw : Regular w ∨ ∀ e, w e = ⊥) {a b : Fin 8}
    (hab : Top w a b) (hmask : ∀ e, mask e = if e = a ∨ e = b then 1 else 0) (y : Fin 8 → EReal) : pairSum ε w y = maskSum ε mask w y := by
  obtain ⟨r, hr, rfl⟩ := hε
  rcases hw with hw | hw
  · obtain ⟨rfl, rfl⟩ := hab.unique (top_choices hw)
    have hne : c1 w ≠ c2 w := (c2_ne hw).symm
    have hoff : ∀ e, e ≠ c1 w → e ≠ c2 w → mask e = 0 := fun e h1 h2 => by rw [hmask, if_neg (by tauto)]
    have h1 : mask (c1 w) = 1 := by rw [hmask, if_pos (Or.inl rfl)]
    have h2 : mask (c2 w) = 1 := by rw [hmask, if_pos (Or.inr rfl)]
    have hden : (∑ k, w k * mask k) = w (c1 w) + w (c2 w) := by
      rw [sum_two hne (fun e he he' => by rw [hoff e he he', mul_zero]), h1, h2, mul_one, mul_one]
    unfold pairSum maskSum
    obtain ⟨r1, hr1, e1⟩ := hw (c1 w)
    obtain ⟨r2, hr2, e2⟩ := hw (c2 w)
    have hD : w (c1 w) + w (c2 w) + (r : EReal) ≠ 0 := by
      rw [e1, e2, ← EReal.coe_add, ← EReal.coe_add]
      exact_mod_cast (by positivity : r1 + r2 + r ≠ 0)
    rw [hden, sum_two hne, h1, h2, mul_one, mul_one, rest_c2 hw, ← c1_max w]
    intro e he he'
    rw [hoff e he he', mul_zero, Ideal.div, if_neg hD, zero_mul, zero_mul]
  · have hmx : mx w = ⊥ := by rw [← c1_max, hw]
    have hden : (∑ k, w k * mask k) = ⊥ := by
      rw [← Finset.add_sum_erase _ _ (Finset.mem_univ a), hmask a, if_pos (Or.inl rfl), mul_one, hw a, EReal.bot_add]
    have hz : ∀ x : EReal, Ideal.div x ⊥ = 0 := fun x => by simp [Ideal.div]
    unfold pairSum maskSum
    rw [hden, hmx]
    simp only [EReal.bot_add, hz, zero_mul, Finset.sum_const_zero, add_zero]

end Cert.Moe
-- ==== Proof.Choice.lean ====
/-
  What the router computes with floats: the softmax of a token's eight logits, its two choices of expert, and the two
  weights the choices are combined with.
-/
module

public import proofs.«01_k».proof.Proof.Slots
public import proofs.«01_k».proof.Proof.Row
public import Idealize.ShloMosaic.Lib.WordCmp

@[expose] public section

noncomputable section

namespace Cert.Moe

open Idealize.ShloMosaic

theorem bits_bot : Ideal.ofBits .f32 4286578688#32 = ⊥ := by simp [Ideal.ofBits, Ideal.ieee]

theorem fold_max (f : Fin 8 → EReal) : Finset.univ.fold max (Ideal.ofBits .f32 4286578688#32) f = mx f := by rw [bits_bot]; rfl

/-- The small number added to the sum of the two chosen weights. -/
def eps : EReal := Ideal.ofBits .f32 814313567#32

theorem eps_pos : ∃ r : ℝ, 0 < r ∧ eps = r := by
  refine ⟨_, ?_, by unfold eps; simp only [Ideal.ofBits, Ideal.ieee]; simp [← EReal.coe_mul]; rfl⟩
  positivity

end Cert.Moe

namespace Cert.KernelIdeal.Moe

open Cert.KernelIdeal Cert.KernelIdeal.Gen Cert.Moe
open Idealize.ShloMosaic Idealize.ShloMosaic.TcCoe

variable (x : Vec Ideal S4096x768 .f32) (wr : Vec Ideal S768x8 .f32) (br : Vec Ideal S1x8 .f32)

/-- The router's logits of one token. -/
def logit (t : Fin 4096) (e : Fin 8) : EReal := ∑ k : Fin 768, x (ix2 t k) * wr (ix2 k e) + br (ix2 0 e)

/-- The router's weights of one token. -/
def wRow (t : Fin 4096) : Fin 8 → EReal := soft (logit x wr br t)

theorem w_apply (t : Fin 4096) (e : Fin 8) : k0_pay6 (F := Ideal) x wr br (ix2 t e) = wRow x wr br t e := by
  unfold k0_pay6
  pointwise
  simp only [fold_max]
  rfl

theorem m1_apply (t : Fin 4096) : k0_pay7 (F := Ideal) x wr br (ix2 t 0) = mx (wRow x wr br t) := by
  unfold k0_pay7
  pointwise
  simp only [fold_max, w_apply]

theorem p8_apply (t : Fin 4096) (e : Fin 8) :
    k0_pay8 (F := Ideal) x wr br (ix2 t e) = BitVec.ofBool (decide (e = c1 (wRow x wr br t))) := by
  unfold k0_pay8
  pointwise
  simp only [w_apply, m1_apply]
  rw [fold_minsi (fun e => wRow x wr br t e = mx (wRow x wr br t)) (c1 (wRow x wr br t)) (c1_max _) (fun e h => c1_le _ h),
    WordCmp.cmpi_eq_ofNat (by omega) (by omega)]
  simp only [Fin.ext_iff]

theorem p9_apply (t : Fin 4096) (e : Fin 8) : k0_pay9 (F := Ideal) x wr br (ix2 t e) = rest (wRow x wr br t) e := by
  unfold k0_pay9
  pointwise
  rw [p8_apply, w_apply, WordCmp.select_decide, bits_bot]
  rfl

theorem m2_apply (t : Fin 4096) : k0_pay10 (F := Ideal) x wr br (ix2 t 0) = mx (rest (wRow x wr br t)) := by
  unfold k0_pay10
  pointwise
  simp only [fold_max, p9_apply]

theorem p11_apply (t : Fin 4096) : k0_pay11 (F := Ideal) x wr br (ix2 t 0) = BitVec.ofNat 32 (c2 (wRow x wr br t)).val := by
  unfold k0_pay11
  pointwise
  simp only [p9_apply, m2_apply]
  exact fold_minsi (fun e => rest (wRow x wr br t) e = mx (rest (wRow x wr br t))) (c2 (wRow x wr br t)) (c1_max _) (fun e h => c1_le _ h)

/-- The expert of every job: first choices, then second choices. -/
def choice (j : ℕ) : Fin 8 :=
  if h : j < 4096 then c1 (wRow x wr br ⟨j, h⟩) else if h : j - 4096 < 4096 then c2 (wRow x wr br ⟨j - 4096, h⟩) else 0

theorem choice_first (t : Fin 4096) : choice x wr br t.val = c1 (wRow x wr br t) := by simp [choice]

theorem choice_second (t : Fin 4096) : choice x wr br (4096 + t.val) = c2 (wRow x wr br t) := by simp [choice]

/-- The indicator bit of a choice, read as a number, is the count of the job's own hit. -/
theorem bit_hit {ch : ℕ → Fin 8} {j : ℕ} {c e : Fin 8} (h : ch j = c) : N (BitVec.ofBool (decide (e = c))).toNat = N (hit ch j e) := by
  rw [hit, h]
  by_cases he : e = c
  · subst he; simp
  · simp [he, Ne.symm he]

theorem bit_hit' {ch : ℕ → Fin 8} {j : ℕ} {c e : Fin 8} (h : ch j = c) : N (BitVec.ofBool (decide (e.val = c.val))).toNat = N (hit ch j e) := by
  rw [← bit_hit h]
  simp only [Fin.ext_iff]

/-- The indicator matrices of the router are those of the choices. -/
theorem picks : Picks x wr br (choice x wr br) where
  one t e := by
    unfold pick1 k0_pay16
    pointwise
    rw [p8_apply, sitofp_bit', bit_hit (choice_first x wr br t)]
  two t e := by
    unfold pick2 k0_pay17 expertNo
    pointwise
    rw [p11_apply, WordCmp.cmpi_eq_ofNat (by omega) (by omega), sitofp_bit', bit_hit' (choice_second x wr br t)]

theorem n1_apply (t : Fin 4096) : outN1 (F := Ideal) x wr br (ix2 t 0)
    = Ideal.div (mx (wRow x wr br t)) (mx (wRow x wr br t) + mx (rest (wRow x wr br t)) + eps) := by
  unfold outN1 k0_pay14 k0_pay13 k0_pay12
  pointwise
  rw [m1_apply, m2_apply]
  rfl

theorem n2_apply (t : Fin 4096) : outN2 (F := Ideal) x wr br (ix2 t 0)
    = Ideal.div (mx (rest (wRow x wr br t))) (mx (wRow x wr br t) + mx (rest (wRow x wr br t)) + eps) := by
  unfold outN2 k0_pay15 k0_pay13 k0_pay12
  pointwise
  rw [m1_apply, m2_apply]
  rfl

end Cert.KernelIdeal.Moe
-- ==== Proof.Feed.lean ====
/-
  What the host hands the expert launch: for every slot the token whose job sits there, and that token's row of the
  input.  The slots' tokens are scattered into an array of zeros at the slots the router gave; the rows are then taken by
  those tokens, each index checked to be in range.
-/
module

public import proofs.«01_k».proof.Proof.Choice
public import proofs.«01_k».proof.Proof.Left
public import Idealize.ShloMosaic.Lib.Pointwise
public import Idealize.ShloMosaic.Lib.Routing.Ops
public import Idealize.ShloMosaic.Lib.Routing.OpsPair
public import Idealize.ShloMosaic.Lib.Routing.OpsSet

@[expose] public section

noncomputable section

set_option maxRecDepth 65536

namespace Cert.KernelIdeal.Moe

open Cert.KernelIdeal Cert.KernelIdeal.Gen Cert.Moe
open Idealize.ShloMosaic Idealize.ShloMosaic.TcCoe Idealize.ShloMosaic.Tactic

/-! ## The tokens of the slots -/

/-- The two columns of slots, one after the other: the slot of every job. -/
def jobSlots (p1 p2 : IVec S4096x1 32) : IVec S8192 32 :=
  concatenate S8192 0 [⟨S4096, shapeCast S4096 p1 shapeCasts_S4096x1_S4096⟩, ⟨S4096, shapeCast S4096 p2 shapeCasts_S4096x1_S4096⟩]
    concatenates_S4096_S4096_S8192_d0

/-- The token of every job. -/
def jobTokens : IVec S8192 32 :=
  concatenate S8192 0 [⟨S4096, iotaInDim S4096 32 0⟩, ⟨S4096, iotaInDim S4096 32 0⟩] concatenates_S4096_S4096_S8192_d0

/-- The slots as the scatter reads them: a negative one counted from the end. -/
def slotWords (p1 p2 : IVec S4096x1 32) : IVec S8192x1 32 :=
  broadcastInDim S8192x1 ![0] bcast_S8192_S8192x1_0
    (select (cmpi .slt (jobSlots p1 p2) (broadcastInDim S8192 ![] bcast_S_S8192 (constantI S_ 32 0#32)))
      (addi (jobSlots p1 p2) (broadcastInDim S8192 ![] bcast_S_S8192 (constantI S_ 32 10240#32))) (jobSlots p1 p2))

/-- The token of every slot. -/
def sources (p1 p2 : IVec S4096x1 32) : IVec S10240 32 :=
  Host.scatter scatter_S10240_S8192x1_S8192_n_0_0_1 (fun _ b => b) (broadcastInDim S10240 ![] bcast_S_S10240 (constantI S_ 32 0#32))
    (slotWords p1 p2) jobTokens

/-- The host's first stretch after the router leaves `sources`. -/
theorem host_sources (W : Valuation τ sig (Elt Ideal)) :
    (StableHlo.after hostOps1 W (Proc.devRef .tc main_v14) : IVec S10240 32)
      = sources (W (Proc.devRef .tc main_v1_1)) (W (Proc.devRef .tc main_v1_2)) := by
  after_reads_simp
  rfl

/-- The scatter's update `i` lands at `e` when its index word, read signed, is `e`. -/
theorem lands (idx : IVec S8192x1 32) (i : Fin 8192) (e : Fin 10240) :
    scatter_S10240_S8192x1_S8192_n_0_0_1.resultIdx? (ValueIdx.ix1 i) idx = some (ValueIdx.ix1 e) ↔ (idx (ix2 i (0 : Fin 1))).toInt = (e.val : Int) := by
  have hs : scatter_S10240_S8192x1_S8192_n_0_0_1.start (ValueIdx.ix1 i) idx 0 = (idx (ix2 i (0 : Fin 1))).toInt := by
    have : scatter_S10240_S8192x1_S8192_n_0_0_1.siIdx (ValueIdx.ix1 i) ⟨0, Nat.one_pos⟩ = ix2 i (0 : Fin 1) := by
      funext a
      match a with
      | ⟨0, _⟩ => rfl
      | ⟨1, _⟩ => rfl
    exact congrArg (fun k => (idx k).toInt) this
  have hw : scatter_S10240_S8192x1_S8192_n_0_0_1.window (ValueIdx.ix1 i) 0 = 0 := rfl
  rw [Routing.resultIdx?_ix1, hs, hw]
  simp

theorem jobSlots_first (p1 p2 : IVec S4096x1 32) (t : Fin 4096) (h : t.val < 8192) :
    jobSlots p1 p2 (ValueIdx.ix1 ⟨t.val, h⟩) = p1 (ix2 t 0) := by
  unfold jobSlots
  pointwise
theorem jobSlots_second (p1 p2 : IVec S4096x1 32) (t : Fin 4096) (h : 4096 + t.val < 8192) :
    jobSlots p1 p2 (ValueIdx.ix1 ⟨4096 + t.val, h⟩) = p2 (ix2 t 0) := by
  unfold jobSlots
  pointwise

theorem jobTokens_first (t : Fin 4096) (h : t.val < 8192) : jobTokens (ValueIdx.ix1 ⟨t.val, h⟩) = BitVec.ofNat 32 t.val := by
  unfold jobTokens
  pointwise

theorem jobTokens_second (t : Fin 4096) (h : 4096 + t.val < 8192) : jobTokens (ValueIdx.ix1 ⟨4096 + t.val, h⟩) = BitVec.ofNat 32 t.val := by
  unfold jobTokens
  pointwise

/-- A slot word that is not negative is read as it is. -/
theorem slotWords_apply (p1 p2 : IVec S4096x1 32) (i : Fin 8192) {n : ℕ} (hn : n < 10240)
    (h : jobSlots p1 p2 (ValueIdx.ix1 i) = BitVec.ofNat 32 n) : slotWords p1 p2 (ix2 i (0 : Fin 1)) = BitVec.ofNat 32 n := by
  have : slotWords p1 p2 (ix2 i (0 : Fin 1)) = Scalar.select (IntOp.cmpi .slt (jobSlots p1 p2 (ValueIdx.ix1 i)) 0#32)
      (jobSlots p1 p2 (ValueIdx.ix1 i) + 10240#32) (jobSlots p1 p2 (ValueIdx.ix1 i)) := by
    unfold slotWords
    pointwise
    rfl
  rw [this, Routing.wrap_of_lt _ _ (by rw [h, BitVec.toNat_ofNat]; omega), h]

/-- What the two columns of slots must be for the jobs' choices `ch`: job `j` sits in slot `slot ch j`. -/
structure Columns (ch : ℕ → Fin 8) (p1 p2 : IVec S4096x1 32) : Prop where
  one : ∀ t : Fin 4096, p1 (ix2 t 0) = BitVec.ofNat 32 (slot ch t.val)
  two : ∀ t : Fin 4096, p2 (ix2 t 0) = BitVec.ofNat 32 (slot ch (4096 + t.val))

variable {ch : ℕ → Fin 8} {p1 p2 : IVec S4096x1 32} (P : Columns ch p1 p2)

include P in
/-- A job's slot and token, whichever column it is in. -/
theorem job (i : Fin 8192) : jobSlots p1 p2 (ValueIdx.ix1 i) = BitVec.ofNat 32 (slot ch i.val)
    ∧ jobTokens (ValueIdx.ix1 i) = BitVec.ofNat 32 (i.val % 4096) := by
  have hi := i.isLt
  by_cases h : i.val < 4096
  · have := jobSlots_first p1 p2 ⟨i.val, h⟩ hi
    rw [P.one] at this
    exact ⟨this, (jobTokens_first ⟨i.val, h⟩ hi).trans (by rw [Nat.mod_eq_of_lt h])⟩
  · obtain ⟨t, ht⟩ : ∃ t : Fin 4096, i.val = 4096 + t.val := ⟨⟨i.val - 4096, by omega⟩, by show i.val = 4096 + (i.val - 4096); omega⟩
    have := t.isLt
    rw [show i = ⟨4096 + t.val, ht ▸ hi⟩ from Fin.ext ht]
    exact ⟨(jobSlots_second p1 p2 t _).trans (P.two t), (jobTokens_second t _).trans (by
      show _ = BitVec.ofNat 32 ((4096 + t.val) % 4096)
      rw [Nat.add_mod_left, Nat.mod_eq_of_lt this])⟩

include P in
/-- The slot of job `j` names the job's token. -/
theorem sources_apply {j : ℕ} (hj : j < 8192) (s : Fin 10240) (hs : s.val = slot ch j) :
    sources p1 p2 (ValueIdx.ix1 s) = BitVec.ofNat 32 (j % 4096) := by
  have word : ∀ i : Fin 8192, scatter_S10240_S8192x1_S8192_n_0_0_1.resultIdx? (ValueIdx.ix1 i) (slotWords p1 p2) = some (ValueIdx.ix1 s)
      ↔ slot ch i.val = s.val := fun i => by
    have hi := slot_lt_rows ch i.isLt
    rw [lands, slotWords_apply p1 p2 i (by omega) (job P i).1, WordCmp.toInt_ofNat_of_lt (by omega), Nat.cast_inj]
  unfold sources
  refine Routing.scatter_set_hit _ _ _ _ _ _ (fun k hk => ?_) (ValueIdx.ix1 ⟨j, hj⟩) ((word ⟨j, hj⟩).2 hs.symm)
  obtain ⟨i, rfl⟩ : ∃ i : Fin 8192, k = ValueIdx.ix1 i := ⟨k 0, by funext a; match a with | ⟨0, _⟩ => rfl⟩
  have e := (word i).1 hk
  rw [hs] at e
  rw [(job P i).2, slot_inj ch i.isLt hj e]

/-! ## The rows -/

/-- The tokens as the take reads them. -/
def tokenWords (src : IVec S10240 32) : IVec S10240x1 32 :=
  broadcastInDim S10240x1 ![0] bcast_S10240_S10240x1_0
    (select (cmpi .slt src (broadcastInDim S10240 ![] bcast_S_S10240 (constantI S_ 32 0#32)))
      (addi src (broadcastInDim S10240 ![] bcast_S_S10240 (constantI S_ 32 4096#32))) src)

/-- Which slots name a token in range. -/
def inRange (src : IVec S10240 32) : IVec S10240 1 :=
  Host.reduce IntOp.andi
    (andi (cmpi .sge (tokenWords src) (broadcastInDim S10240x1 ![] bcast_S_S10240x1 (constantI S_ 32 0#32)))
      (cmpi .sle (tokenWords src) (broadcastInDim S10240x1 ![0, 1] bcast_S1x1_S10240x1_0_1
        (broadcastInDim S1x1 ![1] bcast_S1_S1x1_1 (constantI S1 32 4095#32)))))
    (constantI S_ 1 1#1) reducesTo_S10240x1_S10240_d1 h_S_

/-- The rows of `x` the slots name. -/
def takeRows (x : FVec Ideal S4096x768 .f32) (src : IVec S10240 32) : FVec Ideal S10240x768 .f32 :=
  select (broadcastInDim S10240x768 ![0] bcast_S10240_S10240x768_0 (inRange src))
    (Host.gather gather_S4096x768_S10240x1_S10240x768_1_0_n_n_0_1_1768 x (tokenWords src))
    (broadcastInDim S10240x768 ![] bcast_S_S10240x768 (constant S_ .f32 2143289344#32))

/-- The host's second stretch after the router leaves `takeRows`. -/
theorem host_rows (W : Valuation τ sig (Elt Ideal)) :
    (StableHlo.after hostOps1_1 W (Proc.devRef .tc main_v15) : FVec Ideal S10240x768 .f32)
      = takeRows (W (Proc.devRef .tc main_arg0)) (W (Proc.devRef .tc main_v14)) := by
  after_reads_simp
  rfl

/-- A slot that names token `q` holds token `q`'s row. -/
theorem takeRows_apply (x : FVec Ideal S4096x768 .f32) (src : IVec S10240 32) (s : Fin 10240) (q : Fin 4096) (k : Fin 768)
    (h : src (ValueIdx.ix1 s) = BitVec.ofNat 32 q.val) : takeRows x src (ix2 s k) = x (ix2 q k) := by
  have hq := q.isLt
  have hw : tokenWords src (ix2 s (0 : Fin 1)) = BitVec.ofNat 32 q.val := by
    have : tokenWords src (ix2 s (0 : Fin 1)) = Scalar.select (IntOp.cmpi .slt (src (ValueIdx.ix1 s)) 0#32) (src (ValueIdx.ix1 s) + 4096#32) (src (ValueIdx.ix1 s)) := by
      unfold tokenWords
      pointwise
      rfl
    rw [this, Routing.wrap_of_lt _ _ (by rw [h, BitVec.toNat_ofNat]; omega), h]
  have hr : inRange src (ValueIdx.ix1 s) = 1#1 := by
    unfold inRange
    pointwise
    have hx : ∀ z : Fin 1, tokenWords src (ix2 (ValueIdx.ix1 s 0) z) = BitVec.ofNat 32 q.val := fun z => by
      rw [Subsingleton.elim z 0]
      exact hw
    have hge : IntOp.cmpi .sge (BitVec.ofNat 32 q.val) 0#32 = 1#1 := by
      rw [WordCmp.cmpi_sge_eq, WordCmp.ofBool_decide_eq_one_iff, show (0#32 : BitVec 32).toInt = 0 from rfl, WordCmp.toInt_ofNat_of_lt (by omega)]
      exact Int.natCast_nonneg q.val
    have hle : IntOp.cmpi .sle (BitVec.ofNat 32 q.val) 4095#32 = 1#1 := by
      rw [WordCmp.cmpi_sle_eq, WordCmp.ofBool_decide_eq_one_iff, WordCmp.toInt_ofNat_of_lt (by omega),
        show (4095#32 : BitVec 32).toInt = 4095 from rfl]
      omega
    simp only [hx, hge, hle]
    rw [Finset.univ_unique, Finset.fold_singleton]
    rfl
  have hg : Host.gather gather_S4096x768_S10240x1_S10240x768_1_0_n_n_0_1_1768 x (tokenWords src) (ix2 s k) = x (ix2 q k) :=
    Routing.gather_row gather_S4096x768_S10240x1_S10240x768_1_0_n_n_0_1_1768 rfl rfl rfl rfl rfl x (tokenWords src) s k q hw (by norm_num)
  unfold takeRows
  pointwise
  rw [hg]
  exact if_pos hr

end Cert.KernelIdeal.Moe

end
-- ==== Proof.Sorted.lean ====
/-
  The two largest of eight values as a stable descending sort finds them, equal values in the order of their places.
-/
module

public import proofs.«01_k».proof.Proof.Row
public import Idealize.ShloMosaic.Lib.SortFacts

@[expose] public section

noncomputable section

namespace Cert.Moe

open Idealize.ShloMosaic

/-- One place goes before another: its value is larger, or the values are equal and it is the earlier place. -/
def ahead (w : Fin 8 → EReal) (k k' : Fin 8) : Bool := by
  classical exact decide (w k' < w k ∨ (w k = w k' ∧ k < k'))

/-- A stable sort of a list in increasing order compares a later element with an earlier one only, so that ties broken
    by place change nothing. -/
theorem stableSort_ties (R R' : Fin 8 → Fin 8 → Bool) (h : ∀ a b, a < b → R b a = R' b a) (l : List (Fin 8)) (hl : l.Pairwise (· < ·)) :
    stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_ties (R R' : Fin 8 → Fin 8 → Bool) (h : ∀ a b, a < b → R b a = R' b a) : sortedFrom R = sortedFrom R' := by
  funext k
  unfold sortedFrom
  rw [List.get_of_eq (show sortPositions 8 R = sortPositions 8 R' from stableSort_ties R R' h _ (List.pairwise_lt_finRange 8))]
  rfl

/-- The first two places of a stable descending sort are the two largest. -/
theorem sort_top (w : Fin 8 → EReal) (R : Fin 8 → Fin 8 → Bool) (hR : ∀ k k', R k k' = true ↔ w k' < w k) :
    Top w (sortedFrom R 0) (sortedFrom R 1) := by
  classical
  have hRR : sortedFrom R = sortedFrom (ahead w) := by
    refine sortedFrom_ties _ _ fun a b hab => ?_
    rw [Bool.eq_iff_iff, hR]
    simp only [ahead, decide_eq_true_eq]
    exact ⟨Or.inl, fun h => h.elim id fun h => absurd h.2 (not_lt.mpr hab.le)⟩
  rw [hRR]
  have hord : ∀ i j : Fin 8, i < j →
      w (sortedFrom (ahead w) j) < w (sortedFrom (ahead w) i)
        ∨ (w (sortedFrom (ahead w) j) = w (sortedFrom (ahead w) i) ∧ sortedFrom (ahead w) i < sortedFrom (ahead w) j) := by
    intro i j hij
    have h := sortedFrom_noInversion (ahead w) (ahead w) ?_ (fun _ _ h => h) ?_ i j hij
    · simp only [ahead, decide_eq_false_iff_not, not_or, not_and, not_lt] at h
      rcases h.1.lt_or_eq with h1 | h1
      · exact Or.inl h1
      · refine Or.inr ⟨h1, lt_of_le_of_ne (h.2 h1) fun he => hij.ne (sortedFrom_injective _ he)⟩
    · intro a b h
      simp only [ahead, decide_eq_true_eq, decide_eq_false_iff_not, not_or, not_and, not_lt] at h ⊢
      rcases h with h | ⟨h1, h2⟩
      · exact ⟨h.le, fun h1 => absurd h1 h.ne⟩
      · exact ⟨h1.ge, fun _ => h2.le⟩
    · intro a b c h1 h2
      simp only [ahead, decide_eq_false_iff_not, not_or, not_and, not_lt] at h1 h2 ⊢
      refine ⟨h1.1.trans h2.1, fun h => ?_⟩
      have e1 : w a = w b := le_antisymm h1.1 (h ▸ h2.1)
      have e2 : w b = w c := e1 ▸ h
      exact (h2.2 e2).trans (h1.2 e1)
  have hsur : ∀ k, ∃ j, sortedFrom (ahead w) j = k := sortedFrom_surjective _
  refine ⟨fun h => absurd (sortedFrom_injective _ h) (by decide), fun k hk => ?_, fun k hk hk' => ?_⟩
  · obtain ⟨j, rfl⟩ := hsur k
    exact hord 0 j (Fin.pos_of_ne_zero fun h => hk (h ▸ rfl))
  · obtain ⟨j, rfl⟩ := hsur k
    refine hord 1 j ?_
    have h0 : j ≠ 0 := fun h => hk (h ▸ rfl)
    have h1 : j ≠ 1 := fun h => hk' (h ▸ rfl)
    exact (by decide : ∀ j : Fin 8, j ≠ 0 → j ≠ 1 → 1 < j) j h0 h1

end Cert.Moe
-- ==== Proof.RefRouter.lean ====
/-
  The reference's router: its weights are the softmax of the logits, and its mask marks the two largest.
-/
module

public import proofs.«01_k».proof.Proof.Choice
public import proofs.«01_k».proof.Proof.Sorted
public import proofs.«01_k».proof.Proof.Gen.ReferenceIdeal.Read
public import Idealize.ShloMosaic.Lib.Routing.OpsPair
public import Idealize.ShloMosaic.Lib.Routing.OpsSet

@[expose] public section

noncomputable section

namespace Cert.ReferenceIdeal.Moe

open Cert.ReferenceIdeal Cert.ReferenceIdeal.Gen Cert.ReferenceIdeal.Read Cert.Moe
open Idealize.ShloMosaic

variable (x0 : Vec Ideal S4096x768 .f32) (x1 : Vec Ideal S768x8 .f32) (x2 : Vec Ideal S8 .f32)

/-- The reference's logits of one token. -/
def logit (t : Fin 4096) (e : Fin 8) : EReal := ∑ k : Fin 768, x0 (ix2 t k) * x1 (ix2 k e) + x2 (ix1 e)

/-- Indices of rank two with equal coordinates are equal. -/
theorem idx2_eq {n m : ℕ} {i : (⟨2, ![n, m]⟩ : Shape).Idx} {a : Fin n} {b : Fin m} (ha : (i 0).val = a.val) (hb : (i 1).val = b.val) : i = ix2 a b :=
  funext fun q => match q with
    | ⟨0, _⟩ => Fin.ext ha
    | ⟨1, _⟩ => Fin.ext hb

theorem idx1_eq {n : ℕ} {i : (⟨1, ![n]⟩ : Shape).Idx} {a : Fin n} (ha : (i 0).val = a.val) : i = ix1 a :=
  funext fun q => match q with
    | ⟨0, _⟩ => Fin.ext ha

theorem v3_apply (t : Fin 4096) (e : Fin 8) : val_main_v3 (F := Ideal) x0 x1 x2 (ix2 t e) = logit x0 x1 x2 t e := by
  rw [val_main_v3_apply, val_main_v0_apply, val_main_v2_apply, val_main_v1_apply,
    show idx_main_v1 (idx_main_v2 (ix2 t e)) = ix1 e from idx1_eq rfl]
  refine congrArg (· + x2 (ix1 e)) (Finset.sum_congr rfl fun k _ => ?_)
  rw [show lidx_main_v0 (ix2 t e) k = ix2 t k from idx2_eq rfl rfl, show ridx_main_v0 (ix2 t e) k = ix2 k e from idx2_eq rfl rfl]

theorem v4_apply (t : Fin 4096) : val_main_v4 (F := Ideal) x0 x1 x2 (ix1 t) = mx (logit x0 x1 x2 t) := by
  unfold val_main_v4
  pointwise
  simp only [v3_apply]
  exact fold_max _

theorem v6_apply (t : Fin 4096) : val_main_v6 (F := Ideal) x0 x1 x2 (ix1 t) = mx (logit x0 x1 x2 t) := by
  rw [val_main_v6_apply, val_main_v5_apply, v4_apply]
  exact (congrArg (max · _) bits_bot).trans (max_eq_right bot_le)

theorem v9_apply (t : Fin 4096) (e : Fin 8) :
    val_main_v10 (F := Ideal) x0 x1 x2 (ix2 t e) = Ideal.exp (logit x0 x1 x2 t e - mx (logit x0 x1 x2 t)) := by
  rw [val_main_v10_apply, val_main_v9_apply, val_main_v8_apply, val_main_v7_apply, v3_apply,
    show idx_main_v7 (idx_main_v8 (ix2 t e)) = ix1 t from idx1_eq rfl, v6_apply]
  rfl

/-- The reference's weights are the softmax of the logits. -/
theorem v14_apply (t : Fin 4096) (e : Fin 8) : val_main_v14 (F := Ideal) x0 x1 x2 (ix2 t e) = soft (logit x0 x1 x2 t) e := by
  rw [val_main_v14_apply, val_main_v13_apply, val_main_v12_apply, val_main_v11_apply, v9_apply]
  refine congrArg (Ideal.div _) ?_
  rw [show val_main_cst_1 (F := Ideal) (Shape.Idx.first h_S_) = 0 from Ideal.ofBits_zero_f32, zero_add]
  refine Finset.sum_congr rfl fun k _ => ?_
  rw [show idx_main_v11 (idx_main_v12 (idx_main_v13 (ix2 t e))) k = ix2 t k from idx2_eq rfl rfl, v9_apply]

/-- Line `t` of the places a top-k by `gt` names: those of the stable sort of the line. -/
theorem topK_apply {α : Type} (gt : α → α → BitVec 1) (w : S4096x8.Idx → α) (h : S4096x8.Slices (fun _ => 0) S4096x2) (t : Fin 4096) (j : Fin 2) :
    (Host.topK S4096x2 1 gt w h).2 (ix2 t j)
      = BitVec.ofNat 32 (sortedFrom (fun k k' : Fin 8 => gt (w (ix2 t k)) (w (ix2 t k')) == 1#1) ⟨j.val, by omega⟩).val := by
  have al : ∀ r k : Fin 8, Shape.Idx.along (s := S4096x8) (ix2 t r) 1 k = ix2 t k := fun r k =>
    funext fun q => match q with
      | ⟨0, _⟩ => rfl
      | ⟨1, _⟩ => rfl
  have sl : ∀ y : IVec S4096x8 32, extractStridedSlice S4096x2 (fun _ => 0) y h (ix2 t j) = y (ix2 t ⟨j.val, by omega⟩) := fun y =>
    congrArg y (idx2_eq (Nat.zero_add _) (Nat.zero_add _))
  dsimp only [Host.topK]
  rw [sl, Host.sort2, dif_pos (show 1 < S4096x8.rank by decide)]
  show BitVec.ofNat 32 (sortedFrom (fun k k' : Fin 8 => gt (w (Shape.Idx.along (s := S4096x8) (ix2 t ⟨j.val, by omega⟩) 1 k))
    (w (Shape.Idx.along (s := S4096x8) (ix2 t ⟨j.val, by omega⟩) 1 k')) == 1#1) ⟨j.val, by omega⟩).val = _
  simp only [al]

/-- The two places the reference's top-k names are the two largest weights. -/
theorem indices_top (t : Fin 4096) : ∃ a b : Fin 8, Top (soft (logit x0 x1 x2 t)) a b
    ∧ val_main_indices (F := Ideal) x0 x1 x2 (ix2 t 0) = BitVec.ofNat 32 a.val
    ∧ val_main_indices (F := Ideal) x0 x1 x2 (ix2 t 1) = BitVec.ofNat 32 b.val := by
  have ht := fun j : Fin 2 => topK_apply (FloatOps.cmpfTotal (F := Ideal) (φ := .f32) .gt) (val_main_v14 (F := Ideal) x0 x1 x2) sliceFits_S4096x8_S4096x2 t j
  simp only [v14_apply] at ht
  refine ⟨_, _, sort_top _ _ ?_, ht 0, ht 1⟩
  intro k k'
  show (BitVec.ofBool (decide _) == 1#1) = true ↔ _
  by_cases hk : soft (logit x0 x1 x2 t) k' < soft (logit x0 x1 x2 t) k <;> simp [hk]

theorem v31_row (t : Fin 4096) (k : Fin 2) : val_main_v31 (F := Ideal) x0 x1 x2 (ix3 t k 0) = BitVec.ofNat 32 t.val := by
  unfold val_main_v31
  pointwise
  rw [val_main_v29_apply, val_main_v28_apply, val_main_v22_apply, val_main_v19_apply, val_main_v18_apply, val_main_v16_apply,
    val_main_v15_apply]
  refine Routing.wrap_of_lt _ _ ?_
  show (BitVec.ofNat 32 t.val).toNat < _
  rw [BitVec.toNat_ofNat]
  omega

theorem v31_col (t : Fin 4096) (k : Fin 2) {e : Fin 8} (h : val_main_indices (F := Ideal) x0 x1 x2 (ix2 t k) = BitVec.ofNat 32 e.val) :
    val_main_v31 (F := Ideal) x0 x1 x2 (ix3 t k 1) = BitVec.ofNat 32 e.val := by
  unfold val_main_v31
  pointwise
  rw [val_main_v30_apply, val_main_v27_apply, val_main_v24_apply, val_main_v23_apply,
    show idx_main_v30 (ix3 t k 0) = ix2 t k from idx2_eq rfl rfl, h]
  refine Routing.wrap_of_lt _ _ ?_
  rw [BitVec.toNat_ofNat]
  omega

theorem f32_one : Ideal.ofBits .f32 0x3F800000#32 = 1 := by
  simp [Ideal.ofBits, Ideal.ieee, ← EReal.coe_mul]; norm_num

theorem small_toInt {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

/-- The reference's mask marks the two largest weights. -/
theorem mask_apply (t : Fin 4096) : ∃ a b : Fin 8, Top (soft (logit x0 x1 x2 t)) a b
    ∧ ∀ e, val_main_v33 (F := Ideal) x0 x1 x2 (ix2 t e) = if e = a ∨ e = b then 1 else 0 := by
  have lands : ∀ (r : Fin 4096) (k : Fin 2) (e : Fin 8),
      scatter_S4096x8_S4096x2x2_S4096x2_n_01_01_2.resultIdx? (ix2 r k) (val_main_v31 (F := Ideal) x0 x1 x2) = some (ix2 t e)
        ↔ (val_main_v31 (F := Ideal) x0 x1 x2 (ix3 r k 0)).toInt = t.val ∧ (val_main_v31 (F := Ideal) x0 x1 x2 (ix3 r k 1)).toInt = e.val :=
    fun r k e => Routing.scatter_lands2 scatter_S4096x8_S4096x2x2_S4096x2_n_01_01_2 rfl rfl rfl
    (val_main_v31 (F := Ideal) x0 x1 x2) r k t e
  simp only [v31_row] at lands
  obtain ⟨a, b, hab, h0, h1⟩ := indices_top x0 x1 x2 t
  refine ⟨a, b, hab, fun e => ?_⟩
  have e0 := v31_col x0 x1 x2 t 0 h0
  have e1 := v31_col x0 x1 x2 t 1 h1
  have one : ∀ k, val_main_v32 (F := Ideal) k = 1 := fun k => by
    rw [val_main_v32_apply]; exact f32_one
  unfold val_main_v33
  split
  · next he =>
    obtain ⟨k, hk⟩ : ∃ k : Fin 2, val_main_v31 (F := Ideal) x0 x1 x2 (ix3 t k 1) = BitVec.ofNat 32 e.val := by
      rcases he with rfl | rfl
      · exact ⟨0, e0⟩
      · exact ⟨1, e1⟩
    exact Routing.scatter_set_hit _ _ _ _ _ _ (fun k _ => one k) (ix2 t k)
      ((lands t k e).mpr ⟨small_toInt (by omega), by rw [hk]; exact small_toInt (by omega)⟩)
  · next he =>
    rw [Routing.scatter_set_miss]
    · exact (val_main_v17_apply (F := Ideal) _).trans Ideal.ofBits_zero_f32
    · intro k hk
      obtain ⟨r, q, rfl⟩ : ∃ (r : Fin 4096) (q : Fin 2), k = ix2 r q := ⟨k 0, k 1, idx2_eq rfl rfl⟩
      obtain ⟨hr, hq⟩ := (lands r q e).mp hk
      rw [small_toInt (by omega)] at hr
      obtain rfl : r = t := Fin.ext (by exact_mod_cast hr)
      apply he
      obtain rfl | rfl : q = 0 ∨ q = 1 := by omega
      · rw [e0, small_toInt (by omega)] at hq
        left; ext; omega
      · rw [e1, small_toInt (by omega)] at hq
        right; ext; omega

end Cert.ReferenceIdeal.Moe
-- ==== Proof.Mlp.lean ====
/-
  One expert on one token row, as plain mathematics, and the two programs' forms of it: a row of the kernel's tile, and a
  row of the reference's stack of all experts' results.
-/
module

public import proofs.«01_k».proof.Proof.RefRouter

@[expose] public section

noncomputable section

namespace Cert.Moe

open Idealize.ShloMosaic

/-- Half of a value times one plus the error function of the value over the root of two. -/
def gelu (h : EReal) : EReal := Ideal.ofBits .f32 0x3F000000#32 * h * (1 + Ideal.erf (h * Ideal.ofBits .f32 0x3F3504F3#32))

/-- The hidden layer before its activation. -/
def hid (xr : Fin 768 → EReal) (w1 : Fin 768 → Fin 768 → EReal) (b1 : Fin 768 → EReal) (j : Fin 768) : EReal :=
  ∑ k : Fin 768, xr k * w1 k j + b1 j

/-- The expert's two layers on one row. -/
def mlp (xr : Fin 768 → EReal) (w1 : Fin 768 → Fin 768 → EReal) (b1 : Fin 768 → EReal) (w2 : Fin 768 → Fin 768 → EReal) (b2 : Fin 768 → EReal)
    (n : Fin 768) : EReal :=
  ∑ j : Fin 768, gelu (hid xr w1 b1 j) * w2 j n + b2 n

end Cert.Moe

namespace Cert.KernelIdeal.Moe

open Cert.KernelIdeal Cert.KernelIdeal.Gen Cert.Moe
open Idealize.ShloMosaic Idealize.ShloMosaic.TcCoe

/-- A row of the expert kernel's tile is the expert on that row. -/
theorem tile_apply (x : Vec Ideal S256x768 .f32) (w1 : Vec Ideal S1x768x768 .bf16) (b1 : Vec Ideal S1x1x768 .f32) (w2 : Vec Ideal S1x768x768 .bf16)
    (b2 : Vec Ideal S1x1x768 .f32) (r : Fin 256) (n : Fin 768) : k1_pay1 (F := Ideal) x w1 b1 w2 b2 (ix2 r n)
      = mlp (fun k => x (ix2 r k)) (fun k j => w1 (ix3 0 k j)) (fun j => b1 (ix3 0 0 j)) (fun k j => w2 (ix3 0 k j)) (fun j => b2 (ix3 0 0 j)) n := by
  unfold k1_pay1
  pointwise
  rfl

end Cert.KernelIdeal.Moe

namespace Cert.ReferenceIdeal.Moe

open Cert.ReferenceIdeal Cert.ReferenceIdeal.Gen Cert.ReferenceIdeal.Read Cert.Moe
open Idealize.ShloMosaic

variable (x0 : Vec Ideal S4096x768 .f32) (x1 : Vec Ideal S768x8 .f32) (x2 : Vec Ideal S8 .f32) (x3 : Vec Ideal S8x768x768 .f32)
  (x4 : Vec Ideal S8x768 .f32) (x5 : Vec Ideal S8x768x768 .f32) (x6 : Vec Ideal S8x768 .f32)

/-- Expert `e` of the weights on token `t`. -/
def expert (t : Fin 4096) (e : Fin 8) (n : Fin 768) : EReal :=
  mlp (fun k => x0 (ix2 t k)) (fun k j => x3 (ix3 e k j)) (fun j => x4 (ix2 e j)) (fun k j => x5 (ix3 e k j)) (fun j => x6 (ix2 e j)) n

theorem idx3_eq {n m l : ℕ} {i : (⟨3, ![n, m, l]⟩ : Shape).Idx} {a : Fin n} {b : Fin m} {c : Fin l} (ha : (i 0).val = a.val) (hb : (i 1).val = b.val)
    (hc : (i 2).val = c.val) : i = ix3 a b c :=
  funext fun q => match q with
    | ⟨0, _⟩ => Fin.ext ha
    | ⟨1, _⟩ => Fin.ext hb
    | ⟨2, _⟩ => Fin.ext hc

theorem v44_apply (t : Fin 4096) (e : Fin 8) (j : Fin 768) : val_main_v44 (F := Ideal) x0 x3 x4 (ix3 t e j)
    = hid (fun k => x0 (ix2 t k)) (fun k j => x3 (ix3 e k j)) (fun j => x4 (ix2 e j)) j := by
  rw [val_main_v44_apply, val_main_v41_apply, val_main_v43_apply, val_main_v42_apply,
    show idx_main_v42 (idx_main_v43 (ix3 t e j)) = ix2 e j from idx2_eq rfl rfl]
  refine congrArg (· + x4 (ix2 e j)) (Finset.sum_congr rfl fun k _ => ?_)
  rw [show lidx_main_v41 (ix3 t e j) k = ix2 t k from idx2_eq rfl rfl, show ridx_main_v41 (ix3 t e j) k = ix3 e k j from idx3_eq rfl rfl rfl]

theorem v51_apply (t : Fin 4096) (e : Fin 8) (j : Fin 768) : val_main_v51 (F := Ideal) x0 x3 x4 (ix3 t e j)
    = gelu (hid (fun k => x0 (ix2 t k)) (fun k j => x3 (ix3 e k j)) (fun j => x4 (ix2 e j)) j) := by
  rw [val_main_v51_apply, val_main_v46_apply, val_main_v45_apply, val_main_v50_apply, val_main_v49_apply, val_main_v48_apply, val_main_v47_apply, v44_apply]
  generalize hid (fun k => x0 (ix2 t k)) (fun k j => x3 (ix3 e k j)) (fun j => x4 (ix2 e j)) j = h
  show Ideal.ofBits .f32 0x3F000000#32 * h * Ideal.erfc (-h * Ideal.ofBits .f32 0x3F3504F3#32) = _
  rw [EReal.neg_mul, Ideal.erfc_neg]
  rfl

/-- The reference's stack holds every expert's result on every token. -/
theorem v56_apply (t : Fin 4096) (e : Fin 8) (n : Fin 768) : val_main_v56 (F := Ideal) x0 x3 x4 x5 x6 (ix3 t e n) = expert x0 x3 x4 x5 x6 t e n := by
  rw [val_main_v56_apply, val_main_v53_apply, val_main_v55_apply, val_main_v54_apply, val_main_v52_apply,
    show idx_main_v54 (idx_main_v55 (ix3 t e n)) = ix2 e n from idx2_eq rfl rfl]
  refine congrArg (· + x6 (ix2 e n)) (Finset.sum_congr rfl fun k _ => ?_)
  rw [show lidx_main_v52 (idx_main_v53 (ix3 t e n)) k = ix3 e k n from idx3_eq rfl rfl rfl,
    show ridx_main_v52 (idx_main_v53 (ix3 t e n)) k = ix3 t e k from idx3_eq rfl rfl rfl, v51_apply, mul_comm]

/-- The reference's first result: the experts' results combined by the masked weights. -/
theorem v57_apply (t : Fin 4096) (n : Fin 768) : val_main_v57 (F := Ideal) x0 x1 x2 x3 x4 x5 x6 (ix2 t n)
    = maskSum eps (fun e => val_main_v33 (F := Ideal) x0 x1 x2 (ix2 t e)) (soft (logit x0 x1 x2 t)) (fun e => expert x0 x3 x4 x5 x6 t e n) := by
  rw [val_main_v57_apply]
  refine Finset.sum_congr rfl fun e _ => ?_
  rw [show lidx_main_v57 (ix2 t n) e = ix2 t e from idx2_eq rfl rfl, show ridx_main_v57 (ix2 t n) e = ix3 t e n from idx3_eq rfl rfl rfl,
    v56_apply, val_main_v40_apply, val_main_v39_apply, val_main_v38_apply, val_main_v36_apply, val_main_v35_apply, val_main_v34_apply, v14_apply]
  refine congrArg (fun d => Ideal.div (soft (logit x0 x1 x2 t) e * val_main_v33 (F := Ideal) x0 x1 x2 (ix2 t e)) d * _) ?_
  refine congrArg (· + eps) ?_
  rw [show val_main_cst_7 (F := Ideal) (Shape.Idx.first h_S_) = 0 from Ideal.ofBits_zero_f32, zero_add]
  refine Finset.sum_congr rfl fun k _ => ?_
  rw [show idx_main_v35 (idx_main_v36 (idx_main_v39 (ix2 t e))) k = ix2 t k from idx2_eq rfl rfl, val_main_v34_apply, v14_apply]
  rfl

/-- … which is the two chosen experts' results, each by its own weight. -/
theorem v57_pair (t : Fin 4096) (n : Fin 768) : val_main_v57 (F := Ideal) x0 x1 x2 x3 x4 x5 x6 (ix2 t n)
    = pairSum eps (soft (logit x0 x1 x2 t)) (fun e => expert x0 x3 x4 x5 x6 t e n) := by
  obtain ⟨a, b, hab, hm⟩ := mask_apply x0 x1 x2 t
  rw [v57_apply]
  exact (pairSum_eq_maskSum eps_pos (soft_cases _) hab hm _).symm

end Cert.ReferenceIdeal.Moe
-- ==== Proof.Expert.lean ====
/-
  What the expert launch leaves: row by row of its output array, the tile of the row's point, computed from the rows of
  the first operand and the matrices and biases of the expert the table names for that tile.
-/
module

public import proofs.«01_k».proof.Proof.Mlp
public import proofs.«01_k».proof.Proof.Left

@[expose] public section

noncomputable section

namespace Cert.KernelIdeal.Moe

open Cert.KernelIdeal Cert.KernelIdeal.Gen Cert.Moe
open Idealize.ShloMosaic Idealize.ShloMosaic.TcCoe Idealize.ShloMosaic.Tactic
open Idealize.ShloMosaic.Pipeline (Dat Cfg Window)

variable (a : (pcfg1 (F := Ideal)).Adm) (V : Valuation τ sig (Elt Ideal)) (t : Fin (cfg1 a).N)

theorem lt_points : t.val < 40 := t.isLt.trans_eq N_1

/-- The grid has one axis: point `t` is coordinate `t`. -/
theorem coord : ((cfg1 a).grid.coords t 0).val = t.val := by
  refine (Pipeline.Grid.coords_val (G := grid1) t 0 (S := 1) (B := 40) (by decide) rfl).trans ?_
  rw [Nat.div_one]
  exact Nat.mod_eq_of_lt (lt_points a t)

theorem coord_word : (BitVec.ofNat 32 ((cfg1 a).grid.coords t 0).val).toNat = t.val := by
  have := lt_points a t
  rw [coord, BitVec.toNat_ofNat]; omega

/-! ## The blocks -/

/-- Row `r` of the block of point `t` is row `256·t + r` of the array. -/
def rowOf (r : Fin 256) : Fin 10240 := ⟨t.val * 256 + r.val, by have := lt_points a t; have := r.isLt; omega⟩

theorem emb1_5 (r : Fin 256) (k : Fin 768) : (((cfg1 a).win 5).blk t).view.emb (ix2 r k) = ix2 (rowOf a t r) k := by
  funext q
  refine Fin.ext ((((cfg1 a).win 5).rect_emb_val t (ix2 r k) q rfl).trans ?_)
  match q with
  | ⟨0, _⟩ => exact congrArg (fun n => n * 256 + r.val) (coord_word a t)
  | ⟨1, _⟩ => exact Nat.zero_add _

theorem emb1_0 (r : Fin 256) (k : Fin 768) : (((cfg1 a).win 0).blk t).view.emb (ix2 r k) = ix2 (rowOf a t r) k := by
  funext q
  refine Fin.ext ((((cfg1 a).win 0).rect_emb_val t (ix2 r k) q rfl).trans ?_)
  match q with
  | ⟨0, _⟩ => exact congrArg (fun n => n * 256 + r.val) (coord_word a t)
  | ⟨1, _⟩ => exact Nat.zero_add _

/-- The table's word for point `t`. -/
def wordAt : BitVec 32 := a.1.at 0 (Rect.unit (s := S40) ![(Scalar.indexCast (BitVec.ofNat 32 ((cfg1 a).grid.coords t 0).val)).toNat] S1.size
  (k1_off1_inb ((cfg1 a).grid.coords t))) numel1_S1

theorem wordAt_eq : wordAt a t = (a.1 0 : IVec S40 32) (ValueIdx.ix1 ⟨t.val, lt_points a t⟩) := by
  refine congrArg (a.1 0 : IVec S40 32) (funext fun q => Fin.ext ?_)
  match q with
  | ⟨0, _⟩ =>
    refine (Rect.emb_apply _ _ _).trans ?_
    exact (Nat.add_zero _).trans (coord_word a t)

variable {e : Fin 8} (he : wordAt a t = BitVec.ofNat 32 e.val)

include he in
theorem word_toNat : (wordAt a t).toNat = e.val := by
  have := e.isLt
  rw [he, BitVec.toNat_ofNat]; omega

include he in
theorem emb1_1 (k j : Fin 768) : (((cfg1 a).win 1).blk t).view.emb (ix3 0 k j) = ix3 e k j := by
  funext q
  refine Fin.ext ((((cfg1 a).win 1).rect_emb_val t (ix3 0 k j) q rfl).trans ?_)
  match q with
  | ⟨0, _⟩ => exact (Nat.mul_one _).trans (word_toNat a t he)
  | ⟨1, _⟩ => exact Nat.zero_add _
  | ⟨2, _⟩ => exact Nat.zero_add _
include he in
theorem emb1_2 (j : Fin 768) : (((cfg1 a).win 2).blk t).view.emb (ix3 0 0 j) = ix3 e 0 j := by
  funext q
  refine Fin.ext ((((cfg1 a).win 2).rect_emb_val t (ix3 0 0 j) q rfl).trans ?_)
  match q with
  | ⟨0, _⟩ => exact (Nat.mul_one _).trans (word_toNat a t he)
  | ⟨1, _⟩ => exact Nat.zero_add _
  | ⟨2, _⟩ => exact Nat.zero_add _
include he in
theorem emb1_3 (k j : Fin 768) : (((cfg1 a).win 3).blk t).view.emb (ix3 0 k j) = ix3 e k j := by
  funext q
  refine Fin.ext ((((cfg1 a).win 3).rect_emb_val t (ix3 0 k j) q rfl).trans ?_)
  match q with
  | ⟨0, _⟩ => exact (Nat.mul_one _).trans (word_toNat a t he)
  | ⟨1, _⟩ => exact Nat.zero_add _
  | ⟨2, _⟩ => exact Nat.zero_add _
include he in
theorem emb1_4 (j : Fin 768) : (((cfg1 a).win 4).blk t).view.emb (ix3 0 0 j) = ix3 e 0 j := by
  funext q
  refine Fin.ext ((((cfg1 a).win 4).rect_emb_val t (ix3 0 0 j) q rfl).trans ?_)
  match q with
  | ⟨0, _⟩ => exact (Nat.mul_one _).trans (word_toNat a t he)
  | ⟨1, _⟩ => exact Nat.zero_add _
  | ⟨2, _⟩ => exact Nat.zero_add _

/-! ## The tile -/

/-- The five operands as the launch finds them. -/
abbrev opX : FVec Ideal S10240x768 .f32 := V (Proc.devRef .tc main_v15)
abbrev opW1 : FVec Ideal S8x768x768 .bf16 := V (Proc.devRef .tc main_v16)
abbrev opB1 : FVec Ideal S8x1x768 .f32 := V (Proc.devRef .tc main_v19)
abbrev opW2 : FVec Ideal S8x768x768 .bf16 := V (Proc.devRef .tc main_v17)
abbrev opB2 : FVec Ideal S8x1x768 .f32 := V (Proc.devRef .tc main_v20)

/-- Row `s` of the operand through expert `e`, as the launch has them. -/
def through (s : Fin 10240) (e : Fin 8) (n : Fin 768) : EReal :=
  mlp (fun k => opX V (ix2 s k)) (fun k j => opW1 V (ix3 e k j)) (fun j => opB1 V (ix3 e 0 j)) (fun k j => opW2 V (ix3 e k j))
    (fun j => opB2 V (ix3 e 0 j)) n

include he in
theorem tile_row (r : Fin 256) (n : Fin 768) : tile a V t (ix2 r n) = through V (rowOf a t r) e n := by
  refine (tile_apply _ _ _ _ _ r n).trans ?_
  have h0 : ∀ k, blk1 a V 0 t (ix2 r k) = opX V (ix2 (rowOf a t r) k) := fun k => congrArg (opX V) (emb1_0 a t r k)
  have h1 : ∀ k j, blk1 a V 1 t (ix3 0 k j) = opW1 V (ix3 e k j) := fun k j => congrArg (opW1 V) (emb1_1 a t he k j)
  have h2 : ∀ j, blk1 a V 2 t (ix3 0 0 j) = opB1 V (ix3 e 0 j) := fun j => congrArg (opB1 V) (emb1_2 a t he j)
  have h3 : ∀ k j, blk1 a V 3 t (ix3 0 k j) = opW2 V (ix3 e k j) := fun k j => congrArg (opW2 V) (emb1_3 a t he k j)
  have h4 : ∀ j, blk1 a V 4 t (ix3 0 0 j) = opB2 V (ix3 e 0 j) := fun j => congrArg (opB2 V) (emb1_4 a t he j)
  unfold through
  rw [funext h0, funext fun k => funext (h1 k), funext h2, funext fun k => funext (h3 k), funext h4]

/-! ## The array -/

/-- The output array: row `s` is row `s % 256` of tile `s / 256`. -/
def rowsOut : FVec Ideal S10240x768 .f32 := fun i =>
  tile a V ⟨(i 0).val / 256, by have h : (i 0).val < 10240 := (i 0).isLt; exact (show (i 0).val / 256 < 40 by omega).trans_eq N_1.symm⟩
    (ix2 ⟨(i 0).val % 256, Nat.mod_lt _ (by norm_num)⟩ (i 1))

theorem rowsOut_tile (r : Fin 256) (n : Fin 768) : rowsOut a V (ix2 (rowOf a t r) n) = tile a V t (ix2 r n) := by
  have hr := r.isLt
  have hd : (t.val * 256 + r.val) / 256 = t.val := by omega
  have hm : (t.val * 256 + r.val) % 256 = r.val := by omega
  have h1 : (⟨(t.val * 256 + r.val) / 256, hd.symm ▸ t.isLt⟩ : Fin (cfg1 a).N) = t := Fin.ext hd
  have h2 : (⟨(t.val * 256 + r.val) % 256, hm.symm ▸ hr⟩ : Fin 256) = r := Fin.ext hm
  show tile a V ⟨(t.val * 256 + r.val) / 256, _⟩ (ix2 ⟨(t.val * 256 + r.val) % 256, _⟩ n) = _
  rw [h1, h2]

theorem flush1_5 : ((cfg1 a).win 5).flush t = true := by
  have hN : (cfg1 a).grid.N = 40 := N_1
  have ht := lt_points a t
  unfold Window.flush
  rw [Bool.and_eq_true]
  refine ⟨rfl, ?_⟩
  rw [Bool.or_eq_true, decide_eq_true_iff, decide_eq_true_iff]
  by_cases h : t.val + 1 = 40
  · exact .inl (h.trans hN.symm)
  · have hlt : t.val + 1 < (cfg1 a).N := (show t.val + 1 < 40 by omega).trans_eq N_1.symm
    refine .inr ⟨hlt, fun q => ?_⟩
    have q0 : ((cfg1 a).win 5).index ⟨t.val + 1, hlt⟩ (⟨0, Nat.two_pos⟩ : Fin 2) = ((cfg1 a).win 5).index t (⟨0, Nat.two_pos⟩ : Fin 2) :=
      congrFun q (⟨0, Nat.two_pos⟩ : Fin 2)
    have h1 : ((cfg1 a).win 5).index ⟨t.val + 1, hlt⟩ (⟨0, Nat.two_pos⟩ : Fin 2) = t.val + 1 := coord_word a ⟨t.val + 1, hlt⟩
    have h2 : ((cfg1 a).win 5).index t (⟨0, Nat.two_pos⟩ : Fin 2) = t.val := coord_word a t
    rw [h1, h2] at q0
    omega

/-- The output array holds `rowsOut`. -/
theorem left_rows (V : Dev nD → Valuation τ sig (Elt Ideal)) (c : Dev nD) :
    (Pipeline.afterRegion (dat1 a V c) (V c) (Proc.devRef .tc main_v21) : FVec Ideal S10240x768 .f32) = rowsOut a (V c) := by
  refine (Pipeline.afterRegion_arr (dat1 a V c) (V c) (launch1 (F := Ideal)).win.arr_inj 5).trans ?_
  refine Dat.arrAt_eq_of_cover _ 5 _ (fun t _ => ?_) (fun (i : S10240x768.Idx) => ?_)
  · refine funext fun (y : S256x768.Idx) => ?_
    obtain ⟨r, n, rfl⟩ : ∃ (r : Fin 256) (n : Fin 768), y = ix2 r n := ⟨y 0, y 1, by
      funext q
      match q with
      | ⟨0, _⟩ => rfl
      | ⟨1, _⟩ => rfl⟩
    exact (rowsOut_tile a (V c) t r n).symm.trans (congrArg (rowsOut a (V c)) (emb1_5 a t r n)).symm
  · have h0 : (i 0).val < 10240 := (i 0).isLt
    have ht : (i 0).val / 256 < (cfg1 a).N := (show (i 0).val / 256 < 40 by omega).trans_eq N_1.symm
    have hi : (((cfg1 a).win 5).blk ⟨(i 0).val / 256, ht⟩).view.emb (ix2 (⟨(i 0).val % 256, Nat.mod_lt _ (by norm_num)⟩ : Fin 256) (i 1 : Fin 768)) = i := by
      refine (emb1_5 a ⟨(i 0).val / 256, ht⟩ ⟨(i 0).val % 256, Nat.mod_lt _ (by norm_num)⟩ (i 1)).trans (funext fun q => ?_)
      match q with
      | ⟨0, _⟩ => exact Fin.ext (Nat.div_add_mod' _ 256)
      | ⟨1, _⟩ => rfl
    exact ⟨⟨(i 0).val / 256, ht⟩, flush1_5 a _, (congrArg (· ∈ (((cfg1 a).win 5).blk ⟨(i 0).val / 256, ht⟩).view.set) hi).mp (View.emb_mem_set _ _)⟩

end Cert.KernelIdeal.Moe

end
-- ==== Proof.Dispatched.lean ====
/-
  The expert launch on the rows the host dispatched: the row of a job's slot, in the launch's output, is the job's token
  through the job's expert, both taken from the program's arguments.
-/
module

public import proofs.«01_k».proof.Proof.Feed
public import proofs.«01_k».proof.Proof.Expert
public import proofs.«01_k».proof.Proof.TableIdeal

@[expose] public section

noncomputable section

namespace Cert.KernelIdeal.Moe

open Cert.KernelIdeal Cert.KernelIdeal.Gen Cert.Moe
open Idealize.ShloMosaic Idealize.ShloMosaic.TcCoe Idealize.ShloMosaic.Tactic

variable (m : (ℓ : Loc nD τ sig) → Buf (Elt Ideal) ℓ) (c : Dev nD)

/-- The experts' arguments. -/
abbrev argW1 : FVec Ideal S8x768x768 .f32 := m ((c : Thread nD τ).loc main_arg3)
abbrev argB1 : FVec Ideal S8x768 .f32 := m ((c : Thread nD τ).loc main_arg4)
abbrev argW2 : FVec Ideal S8x768x768 .f32 := m ((c : Thread nD τ).loc main_arg5)
abbrev argB2 : FVec Ideal S8x768 .f32 := m ((c : Thread nD τ).loc main_arg6)

/-- Token `t` through expert `e`, at the program's arguments. -/
def token (t : Fin 4096) (e : Fin 8) (n : Fin 768) : EReal :=
  mlp (fun k => argX m c (ix2 t k)) (fun k j => argW1 m c (ix3 e k j)) (fun j => argB1 m c (ix2 e j)) (fun k j => argW2 m c (ix3 e k j))
    (fun j => argB2 m c (ix2 e j)) n

/-- The choices of all jobs, at the program's arguments. -/
abbrev chosen : ℕ → Fin 8 := choice (argX m c) (argWr m c) (argBr m c)

/-- The router's two columns of slots are the jobs' slots. -/
theorem columns : Columns (chosen m c) (outP1 (argX m c) (argWr m c) (argBr m c)) (outP2 (argX m c) (argWr m c) (argBr m c)) where
  one t := (outP1_apply (picks _ _ _) t).trans (by rw [Nat.zero_add])
  two t := outP2_apply (picks _ _ _) t

/-! ## What the launch finds -/

theorem V2_p1 (o : Outs (F := Ideal)) : V2 m o c main_v1_1 = o 2 main_v1_1 c := by simp only [V2, Function.update]; rfl
theorem V2_p2 (o : Outs (F := Ideal)) : V2 m o c main_v1_2 = o 2 main_v1_2 c := by simp only [V2, Function.update]; rfl

theorem in_src : V3 m (outs0 m) c main_v14 = sources (outP1 (argX m c) (argWr m c) (argBr m c)) (outP2 (argX m c) (argWr m c) (argBr m c)) := by
  refine (host_sources (V2 m (outs0 m) c)).trans ?_
  rw [V2_p1, V2_p2, left_p1, left_p2]

theorem in_x : opX (V5 m (outs0 m) c) = takeRows (argX m c) (sources (outP1 (argX m c) (argWr m c) (argBr m c)) (outP2 (argX m c) (argWr m c) (argBr m c))) := by
  refine (V5_of m (outs0 m) c main_v15 (by decide)).trans ((host_rows (V3 m (outs0 m) c)).trans ?_)
  rw [in_src, V3_of m (outs0 m) c main_arg0 (by decide), V2_of m (outs0 m) c main_arg0 (by decide), V1_of m c main_arg0 (by decide)]

/-- The row of job `j`'s slot is the row of the job's token. -/
theorem in_x_apply {j : ℕ} (hj : j < 8192) (s : Fin 10240) (hs : s.val = slot (chosen m c) j) (k : Fin 768) :
    opX (V5 m (outs0 m) c) (ix2 s k) = argX m c (ix2 ⟨j % 4096, Nat.mod_lt _ (by norm_num)⟩ k) := by
  rw [in_x]
  exact takeRows_apply _ _ s ⟨j % 4096, Nat.mod_lt _ (by norm_num)⟩ k (sources_apply (columns m c) hj s hs)

theorem host_w1 (W : Valuation τ sig (Elt Ideal)) : (StableHlo.after hostOps1_2 W (Proc.devRef .tc main_v16) : FVec Ideal S8x768x768 .bf16)
    = (truncf .bf16 (W main_arg3 : FVec Ideal S8x768x768 .f32) bitsLt_bf16_f32 : FVec Ideal S8x768x768 .bf16) := by after_reads_simp
theorem host_w2 (W : Valuation τ sig (Elt Ideal)) : (StableHlo.after hostOps1_2 W (Proc.devRef .tc main_v17) : FVec Ideal S8x768x768 .bf16)
    = (truncf .bf16 (W main_arg5 : FVec Ideal S8x768x768 .f32) bitsLt_bf16_f32 : FVec Ideal S8x768x768 .bf16) := by after_reads_simp
theorem host_b1 (W : Valuation τ sig (Elt Ideal)) : (StableHlo.after hostOps1_2 W (Proc.devRef .tc main_v19) : FVec Ideal S8x1x768 .f32)
    = shapeCast S8x1x768 (W main_arg4 : FVec Ideal S8x768 .f32) shapeCasts_S8x768_S8x1x768 := by after_reads_simp; rfl
theorem host_b2 (W : Valuation τ sig (Elt Ideal)) : (StableHlo.after hostOps1_2 W (Proc.devRef .tc main_v20) : FVec Ideal S8x1x768 .f32)
    = shapeCast S8x1x768 (W main_arg6 : FVec Ideal S8x768 .f32) shapeCasts_S8x768_S8x1x768 := by after_reads_simp; rfl

/-- A bias of one row per expert, given a middle axis of size one. -/
theorem bias_apply (b : FVec Ideal S8x768 .f32) (e : Fin 8) (j : Fin 768) : shapeCast S8x1x768 b shapeCasts_S8x768_S8x1x768 (ix3 e 0 j) = b (ix2 e j) := by
  pointwise

theorem in_w1 (e : Fin 8) (k j : Fin 768) : opW1 (V5 m (outs0 m) c) (ix3 e k j) = argW1 m c (ix3 e k j) := by
  refine (congrFun (host_w1 (V4 m (outs0 m) c)) _).trans ?_
  rw [V4_of m (outs0 m) c main_arg3 (by decide), V3_of m (outs0 m) c main_arg3 (by decide), V2_of m (outs0 m) c main_arg3 (by decide), V1_of m c main_arg3 (by decide)]
  rfl
theorem in_w2 (e : Fin 8) (k j : Fin 768) : opW2 (V5 m (outs0 m) c) (ix3 e k j) = argW2 m c (ix3 e k j) := by
  refine (congrFun (host_w2 (V4 m (outs0 m) c)) _).trans ?_
  rw [V4_of m (outs0 m) c main_arg5 (by decide), V3_of m (outs0 m) c main_arg5 (by decide), V2_of m (outs0 m) c main_arg5 (by decide), V1_of m c main_arg5 (by decide)]
  rfl
theorem in_b1 (e : Fin 8) (j : Fin 768) : opB1 (V5 m (outs0 m) c) (ix3 e 0 j) = argB1 m c (ix2 e j) := by
  refine (congrFun (host_b1 (V4 m (outs0 m) c)) _).trans ((bias_apply _ e j).trans ?_)
  rw [V4_of m (outs0 m) c main_arg4 (by decide), V3_of m (outs0 m) c main_arg4 (by decide), V2_of m (outs0 m) c main_arg4 (by decide), V1_of m c main_arg4 (by decide)]
theorem in_b2 (e : Fin 8) (j : Fin 768) : opB2 (V5 m (outs0 m) c) (ix3 e 0 j) = argB2 m c (ix2 e j) := by
  refine (congrFun (host_b2 (V4 m (outs0 m) c)) _).trans ((bias_apply _ e j).trans ?_)
  rw [V4_of m (outs0 m) c main_arg6 (by decide), V3_of m (outs0 m) c main_arg6 (by decide), V2_of m (outs0 m) c main_arg6 (by decide), V1_of m c main_arg6 (by decide)]

/-- A job's slot through the job's expert, as the launch has both, is the job's token through that expert. -/
theorem through_slot {j : ℕ} (hj : j < 8192) (s : Fin 10240) (hs : s.val = slot (chosen m c) j) (e : Fin 8) (n : Fin 768) :
    through (V5 m (outs0 m) c) s e n = token m c ⟨j % 4096, Nat.mod_lt _ (by norm_num)⟩ e n := by
  unfold through token
  rw [funext (in_x_apply m c hj s hs), funext fun k => funext (in_w1 m c e k), funext (in_b1 m c e), funext fun k => funext (in_w2 m c e k),
    funext (in_b2 m c e)]

/-! ## What the launch leaves -/

/-- The prefetched table names, for tile `y`, the tile's owner. -/
theorem table_apply (y : Fin 40) : (table m 0 : IVec S40 32) (ValueIdx.ix1 y) = BitVec.ofNat 32 (ownerOf (chosen m c) y.val) := by
  obtain rfl : c = 0 := Subsingleton.elim _ _
  rw [table_eq]
  refine Eq.trans ?_ (outTE_apply (picks (argX m 0) (argWr m 0) (argBr m 0)) y)
  pointwise

/-- The output row of job `j`'s slot. -/
theorem slot_row {j : ℕ} (hj : j < 8192) (s : Fin 10240) (hs : s.val = slot (chosen m c) j) (n : Fin 768) :
    rowsOut ⟨table m, table_ok m⟩ (V5 m (outs0 m) c) (ix2 s n) = token m c ⟨j % 4096, Nat.mod_lt _ (by norm_num)⟩ (chosen m c j) n := by
  have hlt := slot_lt_rows (chosen m c) hj
  have ht : s.val / 256 < (cfg1 ⟨table m, table_ok m⟩).N := (show s.val / 256 < 40 by omega).trans_eq N_1.symm
  have hrow : s = rowOf ⟨table m, table_ok m⟩ ⟨s.val / 256, ht⟩ ⟨s.val % 256, Nat.mod_lt _ (by norm_num)⟩ := Fin.ext (Nat.div_add_mod' _ 256).symm
  have hword : wordAt ⟨table m, table_ok m⟩ ⟨s.val / 256, ht⟩ = BitVec.ofNat 32 (chosen m c j).val := by
    rw [wordAt_eq]
    refine (table_apply m c _).trans ?_
    show BitVec.ofNat 32 (ownerOf (chosen m c) (s.val / 256)) = _
    rw [hs, owner_slot (chosen m c) hj]
  have h := rowsOut_tile ⟨table m, table_ok m⟩ (V5 m (outs0 m) c) ⟨s.val / 256, ht⟩ ⟨s.val % 256, Nat.mod_lt _ (by norm_num)⟩ n
  rw [tile_row _ _ _ hword, ← hrow] at h
  exact h.trans (through_slot m c hj s hs _ n)

end Cert.KernelIdeal.Moe

end
-- ==== Proof.Combined.lean ====
/-
  What the idealized program returns: the two output rows of every token's jobs, weighted and added, and the router's
  weights.
-/
module

public import proofs.«01_k».proof.Proof.Dispatched

@[expose] public section

noncomputable section

set_option maxRecDepth 65536

namespace Cert.KernelIdeal.Moe

open Cert.KernelIdeal Cert.KernelIdeal.Gen Cert.Moe
open Idealize.ShloMosaic Idealize.ShloMosaic.TcCoe Idealize.ShloMosaic.Tactic

/-! ## The host's last stretch -/

/-- A column of slots as the gather reads it. -/
def columnWords (p : IVec S4096x1 32) : IVec S4096x1 32 :=
  broadcastInDim S4096x1 ![0] bcast_S4096_S4096x1_0
    (select (cmpi .slt (shapeCast S4096 p shapeCasts_S4096x1_S4096) (broadcastInDim S4096 ![] bcast_S_S4096 (constantI S_ 32 0#32)))
      (addi (shapeCast S4096 p shapeCasts_S4096x1_S4096) (broadcastInDim S4096 ![] bcast_S_S4096 (constantI S_ 32 10240#32)))
      (shapeCast S4096 p shapeCasts_S4096x1_S4096))

/-- The rows of `y` a column of slots names, each times its token's weight. -/
def weighted (w : FVec Ideal S4096x1 .f32) (y : FVec Ideal S10240x768 .f32) (p : IVec S4096x1 32) : FVec Ideal S4096x768 .f32 :=
  mulf (broadcastInDim S4096x768 ![0, 1] bcast_S4096x1_S4096x768_0_1 w)
    (Host.gather gather_S10240x768_S4096x1_S4096x768_1_0_n_n_0_1_1768 y (columnWords p))

theorem host_combined (W : Valuation τ sig (Elt Ideal)) :
    (StableHlo.after hostOps2 W (Proc.devRef .tc main_v42) : FVec Ideal S4096x768 .f32)
      = (addf (weighted (W main_v1_3) (W main_v21) (W main_v1_1)) (weighted (W main_v1_4) (W main_v21) (W main_v1_2)) : FVec Ideal S4096x768 .f32) := by
  after_reads_simp
  rfl

theorem columnWords_apply (p : IVec S4096x1 32) (t : Fin 4096) {n : ℕ} (hn : n < 10240) (h : p (ix2 t 0) = BitVec.ofNat 32 n) :
    columnWords p (ix2 t (0 : Fin 1)) = BitVec.ofNat 32 n := by
  have : columnWords p (ix2 t (0 : Fin 1)) = Scalar.select (IntOp.cmpi .slt (p (ix2 t 0)) 0#32) (p (ix2 t 0) + 10240#32) (p (ix2 t 0)) := by
    unfold columnWords
    pointwise
    rfl
  rw [this, Routing.wrap_of_lt _ _ (by rw [h, BitVec.toNat_ofNat]; omega), h]

theorem weighted_apply (w : FVec Ideal S4096x1 .f32) (y : FVec Ideal S10240x768 .f32) (p : IVec S4096x1 32) (t : Fin 4096) (n : Fin 768)
    (s : Fin 10240) (h : p (ix2 t 0) = BitVec.ofNat 32 s.val) : weighted w y p (ix2 t n) = w (ix2 t 0) * y (ix2 s n) := by
  have hg : Host.gather gather_S10240x768_S4096x1_S4096x768_1_0_n_n_0_1_1768 y (columnWords p) (ix2 t n) = y (ix2 s n) :=
    Routing.gather_row gather_S10240x768_S4096x1_S4096x768_1_0_n_n_0_1_1768 rfl rfl rfl rfl rfl y (columnWords p) t n s
      (columnWords_apply p t s.isLt h) (by norm_num)
  unfold weighted
  pointwise
  rw [hg]

/-! ## The results -/

variable (m : (ℓ : Loc nD τ sig) → Buf (Elt Ideal) ℓ) (c : Dev nD)

/-- What both launches leave, the table's side condition met. -/
abbrev left : Outs (F := Ideal) := outs m (table_ok m)

theorem V2_w (o : Outs (F := Ideal)) : V2 m o c main_v1_0 = o 2 main_v1_0 c := by simp only [V2, Function.update]; rfl
theorem V2_n1 (o : Outs (F := Ideal)) : V2 m o c main_v1_3 = o 2 main_v1_3 c := by simp only [V2, Function.update]; rfl
theorem V2_n2 (o : Outs (F := Ideal)) : V2 m o c main_v1_4 = o 2 main_v1_4 c := by simp only [V2, Function.update]; rfl

/-- A router result nothing writes after the router. -/
theorem V6_keeps (r : Ref sig .tc) (h3 : V3 m (left m) c r = V2 m (left m) c r) (h4 : V4 m (left m) c r = V3 m (left m) c r)
    (h5 : V5 m (left m) c r = V4 m (left m) c r) (h6 : V6 m (left m) c r = V5 m (left m) c r) : V6 m (left m) c r = V2 m (left m) c r :=
  h6.trans (h5.trans (h4.trans h3))

theorem V6_w : V6 m (left m) c main_v1_0 = outW (argX m c) (argWr m c) (argBr m c) :=
  (V6_keeps m c main_v1_0 (V3_of _ _ _ _ (by decide)) (V4_of _ _ _ _ (by decide)) (V5_of _ _ _ _ (by decide)) (V6_of _ _ _ _ (by decide))).trans
    ((V2_w m c _).trans (left_w m c))
theorem V6_p1 : V6 m (left m) c main_v1_1 = outP1 (argX m c) (argWr m c) (argBr m c) :=
  (V6_keeps m c main_v1_1 (V3_of _ _ _ _ (by decide)) (V4_of _ _ _ _ (by decide)) (V5_of _ _ _ _ (by decide)) (V6_of _ _ _ _ (by decide))).trans
    ((V2_p1 m c _).trans (left_p1 m c))
theorem V6_p2 : V6 m (left m) c main_v1_2 = outP2 (argX m c) (argWr m c) (argBr m c) :=
  (V6_keeps m c main_v1_2 (V3_of _ _ _ _ (by decide)) (V4_of _ _ _ _ (by decide)) (V5_of _ _ _ _ (by decide)) (V6_of _ _ _ _ (by decide))).trans
    ((V2_p2 m c _).trans (left_p2 m c))
theorem V6_n1 : V6 m (left m) c main_v1_3 = outN1 (argX m c) (argWr m c) (argBr m c) :=
  (V6_keeps m c main_v1_3 (V3_of _ _ _ _ (by decide)) (V4_of _ _ _ _ (by decide)) (V5_of _ _ _ _ (by decide)) (V6_of _ _ _ _ (by decide))).trans
    ((V2_n1 m c _).trans (left_n1 m c))
theorem V6_n2 : V6 m (left m) c main_v1_4 = outN2 (argX m c) (argWr m c) (argBr m c) :=
  (V6_keeps m c main_v1_4 (V3_of _ _ _ _ (by decide)) (V4_of _ _ _ _ (by decide)) (V5_of _ _ _ _ (by decide)) (V6_of _ _ _ _ (by decide))).trans
    ((V2_n2 m c _).trans (left_n2 m c))

/-- The expert launch's output. -/
theorem V6_rows : V6 m (left m) c main_v21 = rowsOut ⟨table m, table_ok m⟩ (V5 m (outs0 m) c) :=
  (Function.update_self (Proc.devRef .tc main_v21 : DevRef τ sig) _ (V5 m (left m) c)).trans (left_rows ⟨table m, table_ok m⟩ (V5 m (outs0 m)) c)

/-- The first result: every token's two experts, weighted. -/
theorem combined_apply (t : Fin 4096) (n : Fin 768) : (final m (table_ok m) c (Proc.devRef .tc main_v42) : FVec Ideal S4096x768 .f32) (ix2 t n)
    = pairSum eps (wRow (argX m c) (argWr m c) (argBr m c) t) (fun e => token m c t e n) := by
  have ht := t.isLt
  have l1 := slot_lt_rows (chosen m c) (j := t.val) (by omega)
  have l2 := slot_lt_rows (chosen m c) (j := 4096 + t.val) (by omega)
  have e1 : (⟨t.val % 4096, Nat.mod_lt _ (by norm_num)⟩ : Fin 4096) = t := Fin.ext (Nat.mod_eq_of_lt ht)
  have e2 : (⟨(4096 + t.val) % 4096, Nat.mod_lt _ (by norm_num)⟩ : Fin 4096) = t := Fin.ext (by
    show (4096 + t.val) % 4096 = t.val
    omega)
  refine (congrFun (host_combined (V6 m (left m) c)) _).trans ?_
  rw [V6_p1, V6_p2, V6_n1, V6_n2, V6_rows]
  refine (congrArg₂ (· + ·) (weighted_apply _ _ _ t n ⟨slot (chosen m c) t.val, by omega⟩ ((columns m c).one t))
    (weighted_apply _ _ _ t n ⟨slot (chosen m c) (4096 + t.val), by omega⟩ ((columns m c).two t))).trans ?_
  rw [slot_row m c (j := t.val) (by omega) _ rfl, slot_row m c (j := 4096 + t.val) (by omega) _ rfl, e1, e2, n1_apply, n2_apply,
    show chosen m c t.val = _ from choice_first _ _ _ t, show chosen m c (4096 + t.val) = _ from choice_second _ _ _ t]
  rfl

/-- The second result: every token's weights. -/
theorem weights_apply (t : Fin 4096) (e : Fin 8) : (final m (table_ok m) c (Proc.devRef .tc main_v1_0) : FVec Ideal S4096x8 .f32) (ix2 t e)
    = wRow (argX m c) (argWr m c) (argBr m c) t e := by
  refine (congrFun ((V7_of m (left m) c main_v1_0 (by decide)).trans (V6_w m c)) _).trans ?_
  exact w_apply _ _ _ t e

end Cert.KernelIdeal.Moe

end
-- ==== Proof.TableBits.lean ====
/-
  The prefetched table as the program computes it bit-exactly: each entry is a sum of eight indicator words, cut off
  at seven, so it names one of the eight experts whatever the router's arithmetic gives.
-/
module

public import proofs.«01_k».proof.Proof.KLeft
public import Idealize.ShloMosaic.Lib.NatWords
public import Idealize.ShloMosaic.Lib.NatWordsOrder

@[expose] public section

noncomputable section

namespace Cert.Kernel.Moe

open Cert.Kernel Cert.Kernel.Gen
open Idealize.ShloMosaic Idealize.ShloMosaic.TcCoe

/-- The word of seven. -/
theorem seven : Bits.f32OfNat 7 = (0x40E00000#32 : Bits .f32) := by
  rw [Bits.f32OfNat_eq 7 (by decide)]; decide

/-- A sum of eight indicators, as the reduction forms it, is the word of a natural number. -/
theorem indicator_sum (g : IVec S40x8 1) (j : S40.Idx) :
    ∃ k < 2 ^ 24, multiReduction (F := Bits) .add [1] S40 (sitofp .f32 (extui 32 g natLt_1_32)) 0x00000000#32 reduces_S40x8_S40 (.inl rfl) rfl j
      = Bits.f32OfNat k := by
  have hle : ∀ i : S40x8.Idx, (g i).toNat ≤ 1 := fun i => Nat.le_of_lt_succ (g i).isLt
  have hS : (Bits.reduceFiber reduces_S40x8_S40 j).sum (fun i => (g i).toNat) < 2 ^ 24 := by
    refine lt_of_le_of_lt (Finset.sum_le_card_nsmul _ _ 1 fun i _ => hle i) ?_
    refine lt_of_le_of_lt (Nat.mul_le_mul_right 1 (Finset.card_le_univ _)) ?_
    rw [Shape.card_idx]; decide
  refine ⟨_, hS, Bits.multiReduction_add_nat _ _ _ j _ (fun i _ => ?_) hS⟩
  have h := hle i
  have e : ((g i).setWidth 32).toNat = (g i).toNat := by
    rw [BitVec.toNat_setWidth]; exact Nat.mod_eq_of_lt (by omega)
  show Bits.natOfF32? (Bits.sitofp32 ((g i).setWidth 32)) = _
  rw [Bits.sitofp32_eq_f32OfNat _ (le_refl _) (by omega), Bits.natOfF32?_f32OfNat _ (by omega), e]

/-- Every word of the table is at most seven. -/
theorem te_le (t : FVec Bits S1x8 .f32) (rows cols : IVec S8x8 32) (y : S40x1.Idx) :
    ((k0_pay5 t rows cols : IVec S40x1 32) y).toNat ≤ 7 := by
  obtain ⟨k, hk, e⟩ := indicator_sum (cmpf .oge (sitofp .f32 (iota .tc S40x8 32 [0] iota_S40x8_d0_w32))
    (broadcastTo S40x8 (k0_pay1 t rows cols) broadcasts_S1x8_S40x8)) (Shape.reshapeEquiv shapeCasts_S40_S40x1 y)
  show (Bits.fptosi32 32 (Bits.minf32 _ (0x40E00000#32 : Bits .f32))).toNat ≤ 7
  rw [← seven]
  refine (congrArg (fun w => (Bits.fptosi32 32 (Bits.minf32 w (Bits.f32OfNat 7))).toNat) e).le.trans ?_
  rw [Bits.minf32_nat hk (by decide), Bits.fptosi32_nat _ (by omega), BitVec.toNat_ofNat]
  omega

/-- The expert launch's side condition holds of the table every run prefetches. -/
theorem table_ok (m : (ℓ : Loc nD τ sig) → Buf (Elt Bits) ℓ) : ok1 (table m) :=
  ok1_of_le _ fun y => by rw [table_eq]; exact te_le _ _ _ _

end Cert.Kernel.Moe
-- ==== Proof.Frames.lean ====
/-
  The three frames: each program runs to its end with its arguments unchanged and every semaphore at zero.
-/
module

public import proofs.«01_k».proof.Defs
public import proofs.«01_k».proof.Proof.TableBits
public import proofs.«01_k».proof.Proof.TableIdeal
public import proofs.«01_k».proof.Proof.Gen.ReferenceIdeal.Run

@[expose] public section

noncomputable section

namespace Cert.Proof

open Idealize.ShloMosaic Idealize.ShloMosaic.TcCoe Idealize.SL.Sem

/-- The compiled program's frame. -/
theorem kernel_frame : quiescent_Kernel (hKernel := Cert.Kernel.Gen.facts) := fun m g _ =>
  (θ_run (Cert.Kernel.defs (F := Bits)) _ _).mono
    (fun r h => ⟨fun c => ⟨(h.1 c _ rfl).trans (Cert.Kernel.Gen.V7_main_arg0 m _ c), (h.1 c _ rfl).trans (Cert.Kernel.Gen.V7_main_arg1 m _ c),
      (h.1 c _ rfl).trans (Cert.Kernel.Gen.V7_main_arg2 m _ c), (h.1 c _ rfl).trans (Cert.Kernel.Gen.V7_main_arg3 m _ c),
      (h.1 c _ rfl).trans (Cert.Kernel.Gen.V7_main_arg4 m _ c), (h.1 c _ rfl).trans (Cert.Kernel.Gen.V7_main_arg5 m _ c),
      (h.1 c _ rfl).trans (Cert.Kernel.Gen.V7_main_arg6 m _ c)⟩, h.2⟩)
    (Cert.Kernel.Moe.run m (Cert.Kernel.Moe.table_ok m) g)

/-- The idealized program's frame. -/
theorem ideal_frame : quiescent_KernelIdeal (hKernelIdeal := Cert.KernelIdeal.Gen.facts) := fun m g _ =>
  (θ_run (Cert.KernelIdeal.defs (F := Ideal)) _ _).mono
    (fun r h => ⟨fun c => ⟨(h.1 c _ rfl).trans (Cert.KernelIdeal.Gen.V7_main_arg0 m _ c), (h.1 c _ rfl).trans (Cert.KernelIdeal.Gen.V7_main_arg1 m _ c),
      (h.1 c _ rfl).trans (Cert.KernelIdeal.Gen.V7_main_arg2 m _ c), (h.1 c _ rfl).trans (Cert.KernelIdeal.Gen.V7_main_arg3 m _ c),
      (h.1 c _ rfl).trans (Cert.KernelIdeal.Gen.V7_main_arg4 m _ c), (h.1 c _ rfl).trans (Cert.KernelIdeal.Gen.V7_main_arg5 m _ c),
      (h.1 c _ rfl).trans (Cert.KernelIdeal.Gen.V7_main_arg6 m _ c)⟩, h.2⟩)
    (Cert.KernelIdeal.Moe.run m (Cert.KernelIdeal.Moe.table_ok m) g)

/-- The reference's frame. -/
theorem reference_frame : quiescent_ReferenceIdeal (hReferenceIdeal := Cert.ReferenceIdeal.Gen.facts) := fun m g _ =>
  (θ_run (Cert.ReferenceIdeal.defs (F := Ideal)) _ _).mono
    (fun r h => ⟨fun c => (h c).2.2, Idealize.ShloMosaic.sem_eq_zero_of_no_sems (by decide) r.2⟩)
    (Cert.ReferenceIdeal.Value.run (F := Ideal) m g)

end Cert.Proof
-- ==== Proof.Equal.lean ====
/-
  The equation: from memories that agree on the arguments, the idealized program and the reference run and return equal
  arrays, both results.
-/
module

public import proofs.«01_k».proof.Proof.Combined
public import proofs.«01_k».proof.Proof.Frames

@[expose] public section

noncomputable section

namespace Cert.Proof

open Idealize.ShloMosaic Idealize.ShloMosaic.TcCoe Idealize.SL.Sem
open Cert.Moe

/-- An index of a matrix is its row and its column. -/
theorem rowCol {n k : ℕ} (i : (⟨2, ![n, k]⟩ : Shape).Idx) : ∃ (a : Fin n) (b : Fin k), i = ix2 a b :=
  ⟨i 0, i 1, by
    funext q
    match q with
    | ⟨0, _⟩ => rfl
    | ⟨1, _⟩ => rfl⟩

/-- The router's bias, given a leading axis of size one. -/
theorem biasRow (b : FVec Ideal Cert.KernelIdeal.S8 .f32) (e : Fin 8) :
    shapeCast Cert.KernelIdeal.S1x8 b Cert.KernelIdeal.Gen.facts.shapeCasts_S8_S1x8 (ix2 0 e) = b (ValueIdx.ix1 e) := by
  pointwise
  rfl

variable (m : (ℓ : Loc Cert.KernelIdeal.nD Cert.KernelIdeal.τ Cert.KernelIdeal.sig) → Buf (Elt Ideal) ℓ) (c : Dev Cert.KernelIdeal.nD)

/-- The two programs' router weights of a token agree. -/
theorem weights_eq (t : Fin 4096) : Cert.KernelIdeal.Moe.wRow (Cert.KernelIdeal.Moe.argX m c) (Cert.KernelIdeal.Moe.argWr m c) (Cert.KernelIdeal.Moe.argBr m c) t
    = soft (Cert.ReferenceIdeal.Moe.logit (Cert.KernelIdeal.Moe.argX m c) (Cert.KernelIdeal.Moe.argWr m c)
        (m ((c : Thread Cert.KernelIdeal.nD Cert.KernelIdeal.τ).loc Cert.KernelIdeal.main_arg2)) t) := by
  unfold Cert.KernelIdeal.Moe.wRow
  refine congrArg soft (funext fun e => ?_)
  exact congrArg (_ + ·) (biasRow _ e)

/-- The reference's first result, at the program's arguments. -/
theorem result_eq : (Cert.KernelIdeal.Moe.final m (Cert.KernelIdeal.Moe.table_ok m) c (Proc.devRef .tc Cert.KernelIdeal.main_v42) : FVec Ideal Cert.KernelIdeal.S4096x768 .f32)
    = Cert.ReferenceIdeal.Read.val_main_v57 (F := Ideal) (Cert.KernelIdeal.Moe.argX m c) (Cert.KernelIdeal.Moe.argWr m c)
        (m ((c : Thread Cert.KernelIdeal.nD Cert.KernelIdeal.τ).loc Cert.KernelIdeal.main_arg2)) (Cert.KernelIdeal.Moe.argW1 m c)
        (Cert.KernelIdeal.Moe.argB1 m c) (Cert.KernelIdeal.Moe.argW2 m c) (Cert.KernelIdeal.Moe.argB2 m c) := by
  funext i
  obtain ⟨t, n, rfl⟩ := rowCol i
  refine (Cert.KernelIdeal.Moe.combined_apply m c t n).trans (Eq.trans ?_ (Cert.ReferenceIdeal.Moe.v57_pair _ _ _ _ _ _ _ t n).symm)
  rw [weights_eq]
  rfl

/-- The reference's second result, at the program's arguments. -/
theorem router_eq : (Cert.KernelIdeal.Moe.final m (Cert.KernelIdeal.Moe.table_ok m) c (Proc.devRef .tc Cert.KernelIdeal.main_v1_0) : FVec Ideal Cert.KernelIdeal.S4096x8 .f32)
    = Cert.ReferenceIdeal.Read.val_main_v14 (F := Ideal) (Cert.KernelIdeal.Moe.argX m c) (Cert.KernelIdeal.Moe.argWr m c)
        (m ((c : Thread Cert.KernelIdeal.nD Cert.KernelIdeal.τ).loc Cert.KernelIdeal.main_arg2)) := by
  funext i
  obtain ⟨t, e, rfl⟩ := rowCol i
  refine (Cert.KernelIdeal.Moe.weights_apply m c t e).trans (Eq.trans ?_ (Cert.ReferenceIdeal.Moe.v14_apply _ _ _ t e).symm)
  rw [weights_eq]

/-- Both programs run and return equal arrays. -/
theorem equal : algebraic_KernelIdeal_ReferenceIdeal (hKernelIdeal := Cert.KernelIdeal.Gen.facts) (hReferenceIdeal := Cert.ReferenceIdeal.Gen.facts) :=
  fun m g m' g' _ hargs => by
    refine ⟨fun c => Cert.KernelIdeal.Moe.final m (Cert.KernelIdeal.Moe.table_ok m) c (Proc.devRef .tc Cert.KernelIdeal.main_v42),
      fun c => Cert.KernelIdeal.Moe.final m (Cert.KernelIdeal.Moe.table_ok m) c (Proc.devRef .tc Cert.KernelIdeal.main_v1_0), ?_, ?_⟩
    · exact (θ_run (Cert.KernelIdeal.defs (F := Ideal)) _ _).mono
        (fun r h c => ⟨h.1 c _ rfl, h.1 c _ rfl, (h.1 c _ rfl).trans (Cert.KernelIdeal.Gen.V7_main_arg0 m _ c),
          (h.1 c _ rfl).trans (Cert.KernelIdeal.Gen.V7_main_arg1 m _ c), (h.1 c _ rfl).trans (Cert.KernelIdeal.Gen.V7_main_arg2 m _ c),
          (h.1 c _ rfl).trans (Cert.KernelIdeal.Gen.V7_main_arg3 m _ c), (h.1 c _ rfl).trans (Cert.KernelIdeal.Gen.V7_main_arg4 m _ c),
          (h.1 c _ rfl).trans (Cert.KernelIdeal.Gen.V7_main_arg5 m _ c), (h.1 c _ rfl).trans (Cert.KernelIdeal.Gen.V7_main_arg6 m _ c)⟩)
        (Cert.KernelIdeal.Moe.run m (Cert.KernelIdeal.Moe.table_ok m) g)
    · refine (θ_run (Cert.ReferenceIdeal.defs (F := Ideal)) _ _).mono (fun r h c => ?_) (Cert.ReferenceIdeal.Value.run (F := Ideal) m' g')
      obtain ⟨a0, a1, a2, a3, a4, a5, a6⟩ := hargs c
      refine ⟨(h c).1.trans ((Cert.ReferenceIdeal.Read.val_main_v57_eq m' c).trans ?_), (h c).2.1.trans ((Cert.ReferenceIdeal.Read.val_main_v14_eq _ _ _).trans ?_), (h c).2.2⟩
      · rw [a0, a1, a2, a3, a4, a5, a6]
        exact (result_eq m c).symm
      · rw [a0, a1, a2]
        exact (router_eq m c).symm

end Cert.Proof

end
-- ==== Proof.lean ====
/-
  The certificate's claims, assembled: the three frames, the preservation that idealizing asks, and the equality of the
  idealized program's two results with the reference's.
-/
module

public import proofs.«01_k».proof.Proof.Gen.ReferenceIdeal.Read
public import proofs.«01_k».proof.Proof.Equal

@[expose] public section

noncomputable section

namespace Cert.Proof

theorem claim : Cert.Claim :=
  ⟨Cert.Kernel.Gen.facts, Cert.KernelIdeal.Gen.facts, Cert.ReferenceIdeal.Gen.facts,
    kernel_frame, ideal_frame, reference_frame, trivial, equal⟩

end Cert.Proof

end
